-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S3x4x256x128 : Shape := ⟨4, ![3, 4, 256, 128]⟩
abbrev S3x64x1024 : Shape := ⟨3, ![3, 64, 1024]⟩
abbrev S3x4 : Shape := ⟨2, ![3, 4]⟩
abbrev S3 : Shape := ⟨1, ![3]⟩
abbrev S_ : Shape := ⟨0, ![]⟩
abbrev S64x64 : Shape := ⟨2, ![64, 64]⟩
abbrev S256x128 : Shape := ⟨2, ![256, 128]⟩
abbrev S1x1x256x128 : Shape := ⟨4, ![1, 1, 256, 128]⟩
abbrev S1x1 : Shape := ⟨2, ![1, 1]⟩
abbrev S64x128 : Shape := ⟨2, ![64, 128]⟩
abbrev S1x1x64x128 : Shape := ⟨4, ![1, 1, 64, 128]⟩
abbrev S1x64x1024 : Shape := ⟨3, ![1, 64, 1024]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S64x1024, .f32⟩
  | .local _ .vmem, ⟨0, _⟩ => ⟨S1024x64, .bf16⟩
  | .local _ .vmem, ⟨1, _⟩ => ⟨S64x1024, .bf16⟩
  | .local _ .vmem, ⟨2, _⟩ => ⟨S64x1024, .f32⟩
  | .local _ .vmem, ⟨3, _⟩ => ⟨S1024x1024, .f32⟩
  | .local _ .vmem, ⟨4, _⟩ => ⟨S3x4x256x128, .bf16⟩
  | .local _ .vmem, ⟨5, _⟩ => ⟨S3x4x256x128, .bf16⟩
  | .local _ .vmem, ⟨6, _⟩ => ⟨S3x4x256x128, .bf16⟩
  | .local _ .vmem, ⟨7, _⟩ => ⟨S3x4x256x128, .bf16⟩
  | .local _ .vmem, ⟨8, _⟩ => ⟨S3x64x1024, .bf16⟩
  | .local _ .vmem, ⟨9, _⟩ => ⟨S3x64x1024, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_21 : BitVec 32 := 1#32
  let v43 : BitVec 32 := Scalar.muli v25 c1_i32_21
  let v44 : BitVec 32 := Scalar.addi c0_i32_22 v43
  v44.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_24 : BitVec 32 := 1#32
  let v45 : BitVec 32 := Scalar.muli v29 c1_i32_24
  let v46 : BitVec 32 := Scalar.addi c0_i32_25 v45
  v46.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_13 : BitVec 32 := 1#32
  let v31 : BitVec 32 := Scalar.addi v19 c1_i32_13
  let c4_i32_14 : BitVec 32 := 4#32
  let v32 : BitVec 32 := Scalar.remsi v31 c4_i32_14
  let c4_i32_15 : BitVec 32 := 4#32
  let v33 : BitVec 32 := Scalar.muli v32 c4_i32_15
  let c4_i32_5 : BitVec 32 := 4#32
  let v20 : BitVec 32 := Scalar.remsi v2 c4_i32_5
  let v34 : BitVec 32 := Scalar.addi v33 v20
  let c1_i32_27 : BitVec 32 := 1#32
  let v47 : BitVec 32 := Scalar.muli v34 c1_i32_27
  let v48 : BitVec 32 := Scalar.addi c0_i32_28 v47
  v48.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v35 : BitVec 32 := Scalar.addi v19 c2_i32
  let c4_i32_16 : BitVec 32 := 4#32
  let v36 : BitVec 32 := Scalar.remsi v35 c4_i32_16
  let c4_i32_17 : BitVec 32 := 4#32
  let v37 : BitVec 32 := Scalar.muli v36 c4_i32_17
  let c4_i32_5 : BitVec 32 := 4#32
  let v20 : BitVec 32 := Scalar.remsi v2 c4_i32_5
  let v38 : BitVec 32 := Scalar.addi v37 v20
  let c1_i32_30 : BitVec 32 := 1#32
  let v49 : BitVec 32 := Scalar.muli v38 c1_i32_30
  let v50 : BitVec 32 := Scalar.addi c0_i32_31 v49
  v50.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v39 : BitVec 32 := Scalar.addi v19 c3_i32
  let c4_i32_18 : BitVec 32 := 4#32
  let v40 : BitVec 32 := Scalar.remsi v39 c4_i32_18
  let c4_i32_19 : BitVec 32 := 4#32
  let v41 : BitVec 32 := Scalar.muli v40 c4_i32_19
  let c4_i32_5 : BitVec 32 := 4#32
  let v20 : BitVec 32 := Scalar.remsi v2 c4_i32_5
  let v42 : BitVec 32 := Scalar.addi v41 v20
  let c1_i32_33 : BitVec 32 := 1#32
  let v51 : BitVec 32 := Scalar.muli v42 c1_i32_33
  let v52 : BitVec 32 := Scalar.addi c0_i32_34 v51
  v52.toNat
def k0_off1 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32 : BitVec 32 := 8#32
  let v92 : BitVec 32 := Scalar.addi v20 c8_i32
  let c1_i32_55 : BitVec 32 := 1#32
  let v93 : BitVec 32 := Scalar.subi v92 c1_i32_55
  let v94 : BitVec 32 := Scalar.subi v93 c0_i32_56
  let c4_i32_57 : BitVec 32 := 4#32
  let v95 : BitVec 32 := Scalar.remsi v94 c4_i32_57
  let c256_i32 : BitVec 32 := 256#32
  let v99 : BitVec 32 := Scalar.muli v95 c256_i32
  let v100 : Index := Scalar.indexCast v99
  let c0_61 : Index := 0#32
  ![v100.toNat, 0]
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_74 : BitVec 32 := 1#32
  let v106 : BitVec 32 := Scalar.muli v29 c1_i32_74
  let v107 : BitVec 32 := Scalar.addi c0_i32_75 v106
  v107.toNat
def k0_off2 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32 : BitVec 32 := 8#32
  let v92 : BitVec 32 := Scalar.addi v20 c8_i32
  let c1_i32_55 : BitVec 32 := 1#32
  let v93 : BitVec 32 := Scalar.subi v92 c1_i32_55
  let v94 : BitVec 32 := Scalar.subi v93 c0_i32_56
  let c4_i32_57 : BitVec 32 := 4#32
  let v95 : BitVec 32 := Scalar.remsi v94 c4_i32_57
  let c256_i32_80 : BitVec 32 := 256#32
  let v116 : BitVec 32 := Scalar.muli v95 c256_i32_80
  let v117 : Index := Scalar.indexCast v116
  let c128_81 : Index := 128#32
  ![v117.toNat, 128]
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_93 : BitVec 32 := 1#32
  let v123 : BitVec 32 := Scalar.muli v29 c1_i32_93
  let v124 : BitVec 32 := Scalar.addi c0_i32_94 v123
  v124.toNat
def k0_off3 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32 : BitVec 32 := 8#32
  let v92 : BitVec 32 := Scalar.addi v20 c8_i32
  let c1_i32_55 : BitVec 32 := 1#32
  let v93 : BitVec 32 := Scalar.subi v92 c1_i32_55
  let v94 : BitVec 32 := Scalar.subi v93 c0_i32_56
  let c4_i32_57 : BitVec 32 := 4#32
  let v95 : BitVec 32 := Scalar.remsi v94 c4_i32_57
  let c256_i32_99 : BitVec 32 := 256#32
  let v133 : BitVec 32 := Scalar.muli v95 c256_i32_99
  let v134 : Index := Scalar.indexCast v133
  let c256_100 : Index := 256#32
  ![v134.toNat, 256]
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_112 : BitVec 32 := 1#32
  let v140 : BitVec 32 := Scalar.muli v29 c1_i32_112
  let v141 : BitVec 32 := Scalar.addi c0_i32_113 v140
  v141.toNat
def k0_off4 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c8_i32 : BitVec 32 := 8#32
  let v92 : BitVec 32 := Scalar.addi v20 c8_i32
  let c1_i32_55 : BitVec 32 := 1#32
  let v93 : BitVec 32 := Scalar.subi v92 c1_i32_55
  let v94 : BitVec 32 := Scalar.subi v93 c0_i32_56
  let c4_i32_57 : BitVec 32 := 4#32
  let v95 : BitVec 32 := Scalar.remsi v94 c4_i32_57
  let c256_i32_118 : BitVec 32 := 256#32
  let v150 : BitVec 32 := Scalar.muli v95 c256_i32_118
  let v151 : Index := Scalar.indexCast v150
  let c384_119 : Index := 384#32
  ![v151.toNat, 384]
def k0_dev9 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_131 : BitVec 32 := 1#32
  let v157 : BitVec 32 := Scalar.muli v29 c1_i32_131
  let v158 : BitVec 32 := Scalar.addi c0_i32_132 v157
  v158.toNat
def k0_off5 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_58 : BitVec 32 := 1#32
  let v96 : BitVec 32 := Scalar.addi v20 c1_i32_58
  let v97 : BitVec 32 := Scalar.addi v96 c0_i32_59
  let c4_i32_60 : BitVec 32 := 4#32
  let v98 : BitVec 32 := Scalar.remsi v97 c4_i32_60
  let c256_i32_137 : BitVec 32 := 256#32
  let v167 : BitVec 32 := Scalar.muli v98 c256_i32_137
  let v168 : Index := Scalar.indexCast v167
  let c512_138 : Index := 512#32
  ![v168.toNat, 512]
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_151 : BitVec 32 := 1#32
  let v174 : BitVec 32 := Scalar.muli v25 c1_i32_151
  let v175 : BitVec 32 := Scalar.addi c0_i32_152 v174
  v175.toNat
def k0_off6 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_58 : BitVec 32 := 1#32
  let v96 : BitVec 32 := Scalar.addi v20 c1_i32_58
  let v97 : BitVec 32 := Scalar.addi v96 c0_i32_59
  let c4_i32_60 : BitVec 32 := 4#32
  let v98 : BitVec 32 := Scalar.remsi v97 c4_i32_60
  let c256_i32_157 : BitVec 32 := 256#32
  let v184 : BitVec 32 := Scalar.muli v98 c256_i32_157
  let v185 : Index := Scalar.indexCast v184
  let c640_158 : Index := 640#32
  ![v185.toNat, 640]
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_171 : BitVec 32 := 1#32
  let v191 : BitVec 32 := Scalar.muli v25 c1_i32_171
  let v192 : BitVec 32 := Scalar.addi c0_i32_172 v191
  v192.toNat
def k0_off7 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_58 : BitVec 32 := 1#32
  let v96 : BitVec 32 := Scalar.addi v20 c1_i32_58
  let v97 : BitVec 32 := Scalar.addi v96 c0_i32_59
  let c4_i32_60 : BitVec 32 := 4#32
  let v98 : BitVec 32 := Scalar.remsi v97 c4_i32_60
  let c256_i32_177 : BitVec 32 := 256#32
  let v201 : BitVec 32 := Scalar.muli v98 c256_i32_177
  let v202 : Index := Scalar.indexCast v201
  let c768_178 : Index := 768#32
  ![v202.toNat, 768]
def k0_dev12 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_191 : BitVec 32 := 1#32
  let v208 : BitVec 32 := Scalar.muli v25 c1_i32_191
  let v209 : BitVec 32 := Scalar.addi c0_i32_192 v208
  v209.toNat
def k0_off8 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_58 : BitVec 32 := 1#32
  let v96 : BitVec 32 := Scalar.addi v20 c1_i32_58
  let v97 : BitVec 32 := Scalar.addi v96 c0_i32_59
  let c4_i32_60 : BitVec 32 := 4#32
  let v98 : BitVec 32 := Scalar.remsi v97 c4_i32_60
  let c256_i32_197 : BitVec 32 := 256#32
  let v218 : BitVec 32 := Scalar.muli v98 c256_i32_197
  let v219 : Index := Scalar.indexCast v218
  let c896_198 : Index := 896#32
  ![v219.toNat, 896]
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_211 : BitVec 32 := 1#32
  let v225 : BitVec 32 := Scalar.muli v25 c1_i32_211
  let v226 : BitVec 32 := Scalar.addi c0_i32_212 v225
  v226.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_256 : BitVec 32 := 1#32
  let v261 : BitVec 32 := Scalar.muli v29 c1_i32_256
  let v262 : BitVec 32 := Scalar.addi c0_i32_257 v261
  v262.toNat
def k0_dev15 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_294 : BitVec 32 := 1#32
  let v290 : BitVec 32 := Scalar.muli v29 c1_i32_294
  let v291 : BitVec 32 := Scalar.addi c0_i32_295 v290
  v291.toNat
def k0_dev16 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_332 : BitVec 32 := 1#32
  let v319 : BitVec 32 := Scalar.muli v29 c1_i32_332
  let v320 : BitVec 32 := Scalar.addi c0_i32_333 v319
  v320.toNat
def k0_dev17 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_370 : BitVec 32 := 1#32
  let v348 : BitVec 32 := Scalar.muli v29 c1_i32_370
  let v349 : BitVec 32 := Scalar.addi c0_i32_371 v348
  v349.toNat
def k0_dev18 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_408 : BitVec 32 := 1#32
  let v377 : BitVec 32 := Scalar.muli v25 c1_i32_408
  let v378 : BitVec 32 := Scalar.addi c0_i32_409 v377
  v378.toNat
def k0_dev19 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_446 : BitVec 32 := 1#32
  let v406 : BitVec 32 := Scalar.muli v25 c1_i32_446
  let v407 : BitVec 32 := Scalar.addi c0_i32_447 v406
  v407.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_484 : BitVec 32 := 1#32
  let v435 : BitVec 32 := Scalar.muli v25 c1_i32_484
  let v436 : BitVec 32 := Scalar.addi c0_i32_485 v435
  v436.toNat
def k0_dev21 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_522 : BitVec 32 := 1#32
  let v464 : BitVec 32 := Scalar.muli v25 c1_i32_522
  let v465 : BitVec 32 := Scalar.addi c0_i32_523 v464
  v465.toNat
def k0_dev22 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_567 : BitVec 32 := 1#32
  let v500 : BitVec 32 := Scalar.muli v29 c1_i32_567
  let v501 : BitVec 32 := Scalar.addi c0_i32_568 v500
  v501.toNat
def k0_dev23 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_605 : BitVec 32 := 1#32
  let v529 : BitVec 32 := Scalar.muli v29 c1_i32_605
  let v530 : BitVec 32 := Scalar.addi c0_i32_606 v529
  v530.toNat
def k0_dev24 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_643 : BitVec 32 := 1#32
  let v558 : BitVec 32 := Scalar.muli v29 c1_i32_643
  let v559 : BitVec 32 := Scalar.addi c0_i32_644 v558
  v559.toNat
def k0_dev25 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_681 : BitVec 32 := 1#32
  let v587 : BitVec 32 := Scalar.muli v29 c1_i32_681
  let v588 : BitVec 32 := Scalar.addi c0_i32_682 v587
  v588.toNat
def k0_dev26 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_719 : BitVec 32 := 1#32
  let v616 : BitVec 32 := Scalar.muli v25 c1_i32_719
  let v617 : BitVec 32 := Scalar.addi c0_i32_720 v616
  v617.toNat
def k0_dev27 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_757 : BitVec 32 := 1#32
  let v645 : BitVec 32 := Scalar.muli v25 c1_i32_757
  let v646 : BitVec 32 := Scalar.addi c0_i32_758 v645
  v646.toNat
def k0_dev28 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_795 : BitVec 32 := 1#32
  let v674 : BitVec 32 := Scalar.muli v25 c1_i32_795
  let v675 : BitVec 32 := Scalar.addi c0_i32_796 v674
  v675.toNat
def k0_dev29 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c4_i32_7 : BitVec 32 := 4#32
  let v22 : BitVec 32 := Scalar.addi v20 c4_i32_7
  let c1_i32_8 : BitVec 32 := 1#32
  let v23 : BitVec 32 := Scalar.subi v22 c1_i32_8
  let c4_i32_9 : BitVec 32 := 4#32
  let v24 : BitVec 32 := Scalar.remsi v23 c4_i32_9
  let v25 : BitVec 32 := Scalar.addi v21 v24
  let c1_i32_833 : BitVec 32 := 1#32
  let v703 : BitVec 32 := Scalar.muli v25 c1_i32_833
  let v704 : BitVec 32 := Scalar.addi c0_i32_834 v703
  v704.toNat
def k0_off9 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_954 : BitVec 32 := 256#32
  let v780 : BitVec 32 := Scalar.muli v20 c256_i32_954
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32 : BitVec 32 := 64#32
  let v781 : BitVec 32 := Scalar.muli v779 c64_i32
  let v782 : BitVec 32 := Scalar.addi v780 v781
  let v783 : Index := Scalar.indexCast v782
  let c0_955 : Index := 0#32
  ![v783.toNat, 0]
def k0_off10 (d0 : Dev nD) (c1_i32_952 : BitVec 32) : Fin 4 → Nat :=
  let c2_957 : Index := 2#32
  let c0_958 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_956 : BitVec 32 := 64#32
  let v785 : BitVec 32 := Scalar.muli v779 c64_i32_956
  let v786 : Index := Scalar.indexCast v785
  let c0_959 : Index := 0#32
  ![2, 0, v786.toNat, 0]
def k0_off11 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_960 : BitVec 32 := 256#32
  let v791 : BitVec 32 := Scalar.muli v20 c256_i32_960
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_961 : BitVec 32 := 64#32
  let v792 : BitVec 32 := Scalar.muli v779 c64_i32_961
  let v793 : BitVec 32 := Scalar.addi v791 v792
  let v794 : Index := Scalar.indexCast v793
  let c128_962 : Index := 128#32
  ![v794.toNat, 128]
def k0_off12 (d0 : Dev nD) (c1_i32_952 : BitVec 32) : Fin 4 → Nat :=
  let c2_964 : Index := 2#32
  let c1_965 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_963 : BitVec 32 := 64#32
  let v796 : BitVec 32 := Scalar.muli v779 c64_i32_963
  let v797 : Index := Scalar.indexCast v796
  let c0_966 : Index := 0#32
  ![2, 1, v797.toNat, 0]
def k0_off13 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_967 : BitVec 32 := 256#32
  let v802 : BitVec 32 := Scalar.muli v20 c256_i32_967
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_968 : BitVec 32 := 64#32
  let v803 : BitVec 32 := Scalar.muli v779 c64_i32_968
  let v804 : BitVec 32 := Scalar.addi v802 v803
  let v805 : Index := Scalar.indexCast v804
  let c256_969 : Index := 256#32
  ![v805.toNat, 256]
def k0_off14 (d0 : Dev nD) (c1_i32_952 : BitVec 32) : Fin 4 → Nat :=
  let c2_971 : Index := 2#32
  let c2_972 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_970 : BitVec 32 := 64#32
  let v807 : BitVec 32 := Scalar.muli v779 c64_i32_970
  let v808 : Index := Scalar.indexCast v807
  let c0_973 : Index := 0#32
  ![2, 2, v808.toNat, 0]
def k0_off15 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_974 : BitVec 32 := 256#32
  let v813 : BitVec 32 := Scalar.muli v20 c256_i32_974
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_975 : BitVec 32 := 64#32
  let v814 : BitVec 32 := Scalar.muli v779 c64_i32_975
  let v815 : BitVec 32 := Scalar.addi v813 v814
  let v816 : Index := Scalar.indexCast v815
  let c384_976 : Index := 384#32
  ![v816.toNat, 384]
def k0_off16 (d0 : Dev nD) (c1_i32_952 : BitVec 32) : Fin 4 → Nat :=
  let c2_978 : Index := 2#32
  let c3_979 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_977 : BitVec 32 := 64#32
  let v818 : BitVec 32 := Scalar.muli v779 c64_i32_977
  let v819 : Index := Scalar.indexCast v818
  let c0_980 : Index := 0#32
  ![2, 3, v819.toNat, 0]
def k0_off17 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_981 : BitVec 32 := 256#32
  let v824 : BitVec 32 := Scalar.muli v20 c256_i32_981
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_982 : BitVec 32 := 64#32
  let v825 : BitVec 32 := Scalar.muli v779 c64_i32_982
  let v826 : BitVec 32 := Scalar.addi v824 v825
  let v827 : Index := Scalar.indexCast v826
  let c512_983 : Index := 512#32
  ![v827.toNat, 512]
def k0_off18 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_988 : BitVec 32 := 256#32
  let v835 : BitVec 32 := Scalar.muli v20 c256_i32_988
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_989 : BitVec 32 := 64#32
  let v836 : BitVec 32 := Scalar.muli v779 c64_i32_989
  let v837 : BitVec 32 := Scalar.addi v835 v836
  let v838 : Index := Scalar.indexCast v837
  let c640_990 : Index := 640#32
  ![v838.toNat, 640]
def k0_off19 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_995 : BitVec 32 := 256#32
  let v846 : BitVec 32 := Scalar.muli v20 c256_i32_995
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_996 : BitVec 32 := 64#32
  let v847 : BitVec 32 := Scalar.muli v779 c64_i32_996
  let v848 : BitVec 32 := Scalar.addi v846 v847
  let v849 : Index := Scalar.indexCast v848
  let c768_997 : Index := 768#32
  ![v849.toNat, 768]
def k0_off20 (d0 : Dev nD) (c1_i32_952 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1002 : BitVec 32 := 256#32
  let v857 : BitVec 32 := Scalar.muli v20 c256_i32_1002
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let v778 : BitVec 32 := Scalar.subi v777 c1_i32_952
  let c4_i32_953 : BitVec 32 := 4#32
  let v779 : BitVec 32 := Scalar.remsi v778 c4_i32_953
  let c64_i32_1003 : BitVec 32 := 64#32
  let v858 : BitVec 32 := Scalar.muli v779 c64_i32_1003
  let v859 : BitVec 32 := Scalar.addi v857 v858
  let v860 : Index := Scalar.indexCast v859
  let c896_1004 : Index := 896#32
  ![v860.toNat, 896]
def k0_dev30 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_951 : BitVec 32 := 4#32
  let v777 : BitVec 32 := Scalar.addi v19 c4_i32_951
  let c1_i32_952 : BitVec 32 := 1#32
  let v778 : BitVec 32 := Scalar.subi v777 c1_i32_952
  let c4_i32_953 : BitVec 32 := 4#32
  let v779 : BitVec 32 := Scalar.remsi v778 c4_i32_953
  let c4_i32_1012 : BitVec 32 := 4#32
  let v873 : BitVec 32 := Scalar.muli v779 c4_i32_1012
  let c4_i32_5 : BitVec 32 := 4#32
  let v20 : BitVec 32 := Scalar.remsi v2 c4_i32_5
  let v874 : BitVec 32 := Scalar.addi v873 v20
  let c1_i32_1017 : BitVec 32 := 1#32
  let v875 : BitVec 32 := Scalar.muli v874 c1_i32_1017
  let v876 : BitVec 32 := Scalar.addi c0_i32_1018 v875
  v876.toNat
def k0_dev31 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1023 : BitVec 32 := 4#32
  let v885 : BitVec 32 := Scalar.addi v19 c4_i32_1023
  let c2_i32_1024 : BitVec 32 := 2#32
  let v886 : BitVec 32 := Scalar.subi v885 c2_i32_1024
  let c4_i32_1025 : BitVec 32 := 4#32
  let v887 : BitVec 32 := Scalar.remsi v886 c4_i32_1025
  let c4_i32_1085 : BitVec 32 := 4#32
  let v981 : BitVec 32 := Scalar.muli v887 c4_i32_1085
  let c4_i32_5 : BitVec 32 := 4#32
  let v20 : BitVec 32 := Scalar.remsi v2 c4_i32_5
  let v982 : BitVec 32 := Scalar.addi v981 v20
  let c1_i32_1090 : BitVec 32 := 1#32
  let v983 : BitVec 32 := Scalar.muli v982 c1_i32_1090
  let v984 : BitVec 32 := Scalar.addi c0_i32_1091 v983
  v984.toNat
def k0_dev32 (d0 : Dev nD) : Nat :=
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1096 : BitVec 32 := 4#32
  let v993 : BitVec 32 := Scalar.addi v19 c4_i32_1096
  let c3_i32_1097 : BitVec 32 := 3#32
  let v994 : BitVec 32 := Scalar.subi v993 c3_i32_1097
  let c4_i32_1098 : BitVec 32 := 4#32
  let v995 : BitVec 32 := Scalar.remsi v994 c4_i32_1098
  let c4_i32_1158 : BitVec 32 := 4#32
  let v1089 : BitVec 32 := Scalar.muli v995 c4_i32_1158
  let c4_i32_5 : BitVec 32 := 4#32
  let v20 : BitVec 32 := Scalar.remsi v2 c4_i32_5
  let v1090 : BitVec 32 := Scalar.addi v1089 v20
  let c1_i32_1163 : BitVec 32 := 1#32
  let v1091 : BitVec 32 := Scalar.muli v1090 c1_i32_1163
  let v1092 : BitVec 32 := Scalar.addi c0_i32_1164 v1091
  v1092.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1169 : BitVec 32 := 256#32
  let v1101 : BitVec 32 := Scalar.muli v20 c256_i32_1169
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1170 : BitVec 32 := 64#32
  let v1102 : BitVec 32 := Scalar.muli v19 c64_i32_1170
  let v1103 : BitVec 32 := Scalar.addi v1101 v1102
  let v1104 : Index := Scalar.indexCast v1103
  let c0_1171 : Index := 0#32
  ![v1104.toNat, 0]
def k0_off22 (d0 : Dev nD) : Fin 4 → Nat :=
  let c2_1173 : Index := 2#32
  let c0_1174 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1172 : BitVec 32 := 64#32
  let v1106 : BitVec 32 := Scalar.muli v19 c64_i32_1172
  let v1107 : Index := Scalar.indexCast v1106
  let c0_1175 : Index := 0#32
  ![2, 0, v1107.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1176 : BitVec 32 := 256#32
  let v1112 : BitVec 32 := Scalar.muli v20 c256_i32_1176
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1177 : BitVec 32 := 64#32
  let v1113 : BitVec 32 := Scalar.muli v19 c64_i32_1177
  let v1114 : BitVec 32 := Scalar.addi v1112 v1113
  let v1115 : Index := Scalar.indexCast v1114
  let c128_1178 : Index := 128#32
  ![v1115.toNat, 128]
def k0_off24 (d0 : Dev nD) : Fin 4 → Nat :=
  let c2_1180 : Index := 2#32
  let c1_1181 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1179 : BitVec 32 := 64#32
  let v1117 : BitVec 32 := Scalar.muli v19 c64_i32_1179
  let v1118 : Index := Scalar.indexCast v1117
  let c0_1182 : Index := 0#32
  ![2, 1, v1118.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1183 : BitVec 32 := 256#32
  let v1123 : BitVec 32 := Scalar.muli v20 c256_i32_1183
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1184 : BitVec 32 := 64#32
  let v1124 : BitVec 32 := Scalar.muli v19 c64_i32_1184
  let v1125 : BitVec 32 := Scalar.addi v1123 v1124
  let v1126 : Index := Scalar.indexCast v1125
  let c256_1185 : Index := 256#32
  ![v1126.toNat, 256]
def k0_off26 (d0 : Dev nD) : Fin 4 → Nat :=
  let c2_1187 : Index := 2#32
  let c2_1188 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1186 : BitVec 32 := 64#32
  let v1128 : BitVec 32 := Scalar.muli v19 c64_i32_1186
  let v1129 : Index := Scalar.indexCast v1128
  let c0_1189 : Index := 0#32
  ![2, 2, v1129.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1190 : BitVec 32 := 256#32
  let v1134 : BitVec 32 := Scalar.muli v20 c256_i32_1190
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1191 : BitVec 32 := 64#32
  let v1135 : BitVec 32 := Scalar.muli v19 c64_i32_1191
  let v1136 : BitVec 32 := Scalar.addi v1134 v1135
  let v1137 : Index := Scalar.indexCast v1136
  let c384_1192 : Index := 384#32
  ![v1137.toNat, 384]
def k0_off28 (d0 : Dev nD) : Fin 4 → Nat :=
  let c2_1194 : Index := 2#32
  let c3_1195 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1193 : BitVec 32 := 64#32
  let v1139 : BitVec 32 := Scalar.muli v19 c64_i32_1193
  let v1140 : Index := Scalar.indexCast v1139
  let c0_1196 : Index := 0#32
  ![2, 3, v1140.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1197 : BitVec 32 := 256#32
  let v1145 : BitVec 32 := Scalar.muli v20 c256_i32_1197
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1198 : BitVec 32 := 64#32
  let v1146 : BitVec 32 := Scalar.muli v19 c64_i32_1198
  let v1147 : BitVec 32 := Scalar.addi v1145 v1146
  let v1148 : Index := Scalar.indexCast v1147
  let c512_1199 : Index := 512#32
  ![v1148.toNat, 512]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1204 : BitVec 32 := 256#32
  let v1156 : BitVec 32 := Scalar.muli v20 c256_i32_1204
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1205 : BitVec 32 := 64#32
  let v1157 : BitVec 32 := Scalar.muli v19 c64_i32_1205
  let v1158 : BitVec 32 := Scalar.addi v1156 v1157
  let v1159 : Index := Scalar.indexCast v1158
  let c640_1206 : Index := 640#32
  ![v1159.toNat, 640]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1211 : BitVec 32 := 256#32
  let v1167 : BitVec 32 := Scalar.muli v20 c256_i32_1211
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1212 : BitVec 32 := 64#32
  let v1168 : BitVec 32 := Scalar.muli v19 c64_i32_1212
  let v1169 : BitVec 32 := Scalar.addi v1167 v1168
  let v1170 : Index := Scalar.indexCast v1169
  let c768_1213 : Index := 768#32
  ![v1170.toNat, 768]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_1218 : BitVec 32 := 256#32
  let v1178 : BitVec 32 := Scalar.muli v20 c256_i32_1218
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1219 : BitVec 32 := 64#32
  let v1179 : BitVec 32 := Scalar.muli v19 c64_i32_1219
  let v1180 : BitVec 32 := Scalar.addi v1178 v1179
  let v1181 : Index := Scalar.indexCast v1180
  let c896_1220 : Index := 896#32
  ![v1181.toNat, 896]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Common.lean ====
/-
# The exchange, written down: devices, channels, semaphores, contents

Sixteen devices, device `c = 4 z + j`: plane `z`, place `j` in the plane's ring of four. Every device holds a block
of columns of `x` and the matching block of rows of `w`, and computes the full partial product `P c`. Two phases of
remote copies sum the sixteen partial products, a share per device:

* ring copies: two directions `σ` (`0` to the right, `1` to the left), hops `s = 0, 1, 2`, column chunks `k = 0..3`;
  the copy `(σ, s, k)` carries the chunk `k` of the running sum of one row group to the neighbour in direction `σ`;
* plane copies: `r = 0, 1, 2`; the copy `r` carries the finished sum of a 64-row block to the plane `3 - r` ahead.

A *channel* (`Ch`) names one of these 27 copies. Every device sends once on every channel and receives once on every
channel, and all sends, receive waits and send waits happen in the one order `ord`. Device `c` sends on channel `n` to
`tgt n c` and receives on it from `src n c`.

Semaphores, per device:
* the barrier: five signals of one unit, from the left, the right and the three plane peers; waited for once, for 5.
  Each signal hands over the signaller's landing slots of the channels which the waiter sends on to the signaller;
* per channel a send semaphore: raised by the own copy when it has read its source; hands back the source slot;
* per channel a receive semaphore: raised by the copy of `src n c` when it has landed; hands over the landing slot,
  holding `X n (src n c)`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Channels -/

/-- A ring copy: direction, hop, chunk. -/
abbrev Rg : Type := Fin 2 × Fin 3 × Fin 4
/-- A channel: a ring copy or a plane copy. -/
abbrev Ch : Type := Rg ⊕ Fin 3

/-- The place of a channel in the program's order of sends, of receive waits and of send waits. -/
def ord : Ch → ℕ
  | .inl (σ, s, k) => 8 * s.val + 4 * σ.val + k.val
  | .inr r => 24 + r.val

set_option backward.proofsInPublic true in
/-- Which of the five peers a channel's sender is: left for the copies to the right, right for those to the left, a
    plane peer for the others. -/
def cls : Ch → Fin 5
  | .inl (σ, _, _) => ⟨σ.val, by omega⟩
  | .inr r => ⟨2 + r.val, by omega⟩

theorem ord_inj : Function.Injective ord := by decide +kernel

/-- The number of the peer in direction `i`: left, right, the planes one, two and three ahead. -/
def peerNo (i c : ℕ) : ℕ :=
  if i = 0 then 4 * (c / 4) + (c % 4 + 3) % 4 else if i = 1 then 4 * (c / 4) + (c % 4 + 1) % 4
  else 4 * ((c / 4 + (i - 1)) % 4) + c % 4

/-- The number of the device whose peer in direction `i` is `c`. -/
def backNo (i c : ℕ) : ℕ :=
  if i = 0 then 4 * (c / 4) + (c % 4 + 1) % 4 else if i = 1 then 4 * (c / 4) + (c % 4 + 3) % 4
  else 4 * ((c / 4 + (5 - i)) % 4) + c % 4

set_option backward.proofsInPublic true in
/-- The peer of a device in direction `i`; every direction is a rearrangement of the devices. -/
def nbr (i : Fin 5) : Dev nD ≃ Dev nD where
  toFun c := ⟨peerNo i.val c.val, by revert i c; decide +kernel⟩
  invFun c := ⟨backNo i.val c.val, by revert i c; decide +kernel⟩
  left_inv c := by revert i c; decide +kernel
  right_inv c := by revert i c; decide +kernel

/-- The device that `c` receives from on channel `n`. -/
abbrev src (n : Ch) (c : Dev nD) : Dev nD := nbr (cls n) c
/-- The device that `c` sends to on channel `n`. -/
abbrev tgt (n : Ch) (c : Dev nD) : Dev nD := (nbr (cls n)).symm c

theorem src_tgt (n : Ch) (c : Dev nD) : src n (tgt n c) = c := (nbr (cls n)).apply_symm_apply c
theorem tgt_src (n : Ch) (c : Dev nD) : tgt n (src n c) = c := (nbr (cls n)).symm_apply_apply c

/-! ## Buffers and slots -/

abbrev xM : Memref sig .tc .vmem S1024x64 .bf16 := Memref.whole cc0_stg0_0
abbrev wM : Memref sig .tc .vmem S64x1024 .bf16 := Memref.whole cc0_stg1_0
abbrev oM : Memref sig .tc .vmem S64x1024 .f32 := Memref.whole cc0_stg2_0
abbrev pM : Memref sig .tc .vmem S1024x1024 .f32 := Memref.whole cc0_scratch0

/-- The shape of a channel's buffers (all the channels of a direction share one). -/
abbrev Bs : Ch → Shape
  | .inl _ => S3x4x256x128
  | .inr _ => S3x64x1024
/-- The shape of what a channel carries. -/
abbrev Sh : Ch → Shape
  | .inl _ => S256x128
  | .inr _ => S64x1024

/-- The send buffer of a channel. -/
abbrev sRef : Ch → Ref sig .tc
  | .inl (⟨0, _⟩, _, _) => cc0_scratch1
  | .inl (⟨_ + 1, _⟩, _, _) => cc0_scratch3
  | .inr _ => cc0_scratch5
/-- The landing buffer of a channel. -/
abbrev rRef : Ch → Ref sig .tc
  | .inl (⟨0, _⟩, _, _) => cc0_scratch2
  | .inl (⟨_ + 1, _⟩, _, _) => cc0_scratch4
  | .inr _ => cc0_scratch6
abbrev sBuf : (n : Ch) → Memref sig .tc .vmem (Bs n) .bf16
  | .inl (⟨0, _⟩, _, _) => Memref.whole cc0_scratch1
  | .inl (⟨_ + 1, _⟩, _, _) => Memref.whole cc0_scratch3
  | .inr _ => Memref.whole cc0_scratch5
abbrev rBuf : (n : Ch) → Memref sig .tc .vmem (Bs n) .bf16
  | .inl (⟨0, _⟩, _, _) => Memref.whole cc0_scratch2
  | .inl (⟨_ + 1, _⟩, _, _) => Memref.whole cc0_scratch4
  | .inr _ => Memref.whole cc0_scratch6

theorem inb_ring (s : Fin 3) (k : Fin 4) : ∀ a, (![s.val, k.val, 0, 0] : Fin 4 → ℕ) a + S1x1x256x128.size a ≤ S3x4x256x128.size a := by
  revert s k; decide
theorem inb_plane (r : Fin 3) : ∀ a, (![r.val, 0, 0] : Fin 3 → ℕ) a + S1x64x1024.size a ≤ S3x64x1024.size a := by
  revert r; decide

/-- The slot of a channel in its buffers. -/
abbrev slotR : (n : Ch) → Rect (Bs n)
  | .inl (_, s, k) => Rect.unit (s := S3x4x256x128) ![s.val, k.val, 0, 0] S1x1x256x128.size (inb_ring s k)
  | .inr r => Rect.unit (s := S3x64x1024) ![r.val, 0, 0] S1x64x1024.size (inb_plane r)

theorem slot_squeezes : (n : Ch) → (slotR n).shape.Squeezes (Sh n)
  | .inl _ => squeezes_S1x1x256x128_S256x128
  | .inr _ => squeezes_S1x64x1024_S64x1024
theorem slot_stride : (n : Ch) → ∀ a, (slotR n).stride a = 1
  | .inl _ => fun _ => rfl
  | .inr _ => fun _ => rfl

/-- The slots as the copies see them. -/
abbrev sSlot (n : Ch) : Memref sig .tc .vmem (Sh n) .bf16 := ((sBuf n).slice (slotR n) (slot_stride n)).squeeze (Sh n) (slot_squeezes n)
abbrev rSlot (n : Ch) : Memref sig .tc .vmem (Sh n) .bf16 := ((rBuf n).slice (slotR n) (slot_stride n)).squeeze (Sh n) (slot_squeezes n)

/-- The units a copy on channel `n` raises its semaphores by. -/
abbrev Ncr (n : Ch) : ℕ := (rSlot n).view.dmaCredit

/-! ## Semaphores -/

/-- The numbers of the channels' semaphores: `false` the send one, `true` the receive one. -/
def semNo : Bool × Ch → ℕ
  | (b, .inl (σ, s, k)) => 3 + (if b then 12 else 0) + 24 * σ.val + 4 * s.val + k.val
  | (b, .inr r) => 51 + (if b then 3 else 0) + r.val

theorem semNo_lt : ∀ x : Bool × Ch, semNo x < sig.nDmaSem := by decide +kernel

/-- A channel's send or receive semaphore. -/
abbrev dsem (x : Bool × Ch) : DmaSem sig := ⟨semNo x, semNo_lt x⟩
abbrev osem (x : Bool × Ch) : SemLoc sig := .dma (dsem x)
/-- The barrier semaphore. -/
abbrev barS : Sem sig := (SemArray.scalar (sig.barrier 0 rfl) : Sems sig S_).sem
/-- All the semaphores of the exchange: the barrier and the channels'. -/
abbrev CX : Type := Option (Bool × Ch)
abbrev csem : CX → SemLoc sig
  | none => .reg barS
  | some x => osem x
abbrev kcell (ck : Dev nD × CX) : GSem nD τ sig := ((ck.1 : Thread nD τ), csem ck.2)
abbrev barCell (c : Dev nD) : GSem nD τ sig := ((c : Thread nD τ), .reg barS)
abbrev sendCell (n : Ch) (c : Dev nD) : GSem nD τ sig := ((c : Thread nD τ), osem (false, n))
abbrev recvCell (n : Ch) (c : Dev nD) : GSem nD τ sig := ((c : Thread nD τ), osem (true, n))

theorem semNo_inj : Function.Injective semNo := by decide +kernel
theorem osem_inj : Function.Injective osem := fun x y h => semNo_inj (by injection h with h; exact congrArg Fin.val h)
theorem csem_inj : Function.Injective csem
  | none, none, _ => rfl
  | none, some _, h => by cases h
  | some _, none, h => by cases h
  | some x, some y, h => congrArg some (osem_inj h)

open Classical in
/-- Which semaphore of the exchange a semaphore is, if any. -/
def cix (sl : SemLoc sig) : Option CX := if h : ∃ x, csem x = sl then some h.choose else none

theorem cix_csem (x : CX) : cix (csem x) = some x := by
  unfold cix
  have h : ∃ y, csem y = csem x := ⟨x, rfl⟩
  rw [dif_pos h, csem_inj h.choose_spec]

theorem cix_of_not {sl : SemLoc sig} (h : ∀ x, csem x ≠ sl) : cix sl = none := by
  unfold cix
  exact dif_neg fun ⟨x, hx⟩ => h x hx

instance : DecidableEq CX := inferInstance
instance : DecidableEq (Dev nD × CX) := instDecidableEqProd

/-! ## The resource algebra -/

/-- The names of the contributions to a cell's round: the five peers of the barrier. -/
abbrev D : Type := Fin 5
abbrev UB : Type := URounds (GSem nD τ sig) D
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- The two inputs as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The 64 rows of the staged `x` from row `o` on. -/
abbrev xRd (c : Dev nD) (o : ℕ) (h : ∀ a, (![o, 0] : Fin 2 → ℕ) a + S64x64.size a ≤ S1024x64.size a) : Vec F S64x64 .bf16 :=
  (xM).view.readAt (Elt F) (Rect.unit (s := S1024x64) ![o, 0] S64x64.size h).toLoadRect (xstg m ρ c)

/-- The partial product of device `c`, its rows in the order of the program. -/
def P (c : Dev nD) : (cc0_scratch0 : Ref sig .tc).ty.Contents (Elt F) :=
  k0_pay6 (k0_pay1 (xRd m ρ c 0 inb_S1024x64_S64x64_0_0)) (k0_pay2 (xRd m ρ c 256 inb_S1024x64_S64x64_256_0))
    (k0_pay3 (xRd m ρ c 512 inb_S1024x64_S64x64_512_0)) (k0_pay4 (xRd m ρ c 768 inb_S1024x64_S64x64_768_0))
    (k0_pay5 (xRd m ρ c 64 inb_S1024x64_S64x64_64_0)) (xRd m ρ c 320 inb_S1024x64_S64x64_320_0)
    (xRd m ρ c 576 inb_S1024x64_S64x64_576_0) (xRd m ρ c 832 inb_S1024x64_S64x64_832_0)
    (xRd m ρ c 128 inb_S1024x64_S64x64_128_0) (xRd m ρ c 384 inb_S1024x64_S64x64_384_0)
    (xRd m ρ c 640 inb_S1024x64_S64x64_640_0) (xRd m ρ c 896 inb_S1024x64_S64x64_896_0)
    (xRd m ρ c 192 inb_S1024x64_S64x64_192_0) (xRd m ρ c 448 inb_S1024x64_S64x64_448_0)
    (xRd m ρ c 704 inb_S1024x64_S64x64_704_0) (xRd m ρ c 960 inb_S1024x64_S64x64_960_0)
    (wM.view.readAt (Elt F) (Rect.unit (s := S64x1024) ![0, 0] S64x1024.size inb_S64x1024_S64x1024_0_0).toLoadRect (wstg m ρ c))

/-- The row group that device `c` sends on hop `s` in direction `σ`. -/
def grp (σ : Fin 2) (s : ℕ) (c : Dev nD) : ℕ := if σ.val = 0 then (c.val % 4 + 7 - s) % 4 else (c.val % 4 + s + 1) % 4

theorem grp_lt (σ : Fin 2) (s : ℕ) (c : Dev nD) : grp σ s c < 4 := by unfold grp; split <;> omega

/-- Where the chunk sent on `(σ, s, k)` lies in the partial product. -/
def pOff (σ : Fin 2) (s : ℕ) (k : Fin 4) (c : Dev nD) : Fin 2 → ℕ := ![256 * grp σ s c, 512 * σ.val + 128 * k.val]

theorem pOff_inb (σ : Fin 2) (s : ℕ) (k : Fin 4) (c : Dev nD) : ∀ a, pOff σ s k c a + S256x128.size a ≤ S1024x1024.size a := fun a => by
  have := grp_lt σ s c
  match a with
  | ⟨0, _⟩ => show 256 * grp σ s c + 256 ≤ 1024; omega
  | ⟨1, _⟩ => show 512 * σ.val + 128 * k.val + 128 ≤ 1024; omega

/-- That chunk. -/
def pChunk (σ : Fin 2) (s : ℕ) (k : Fin 4) (c : Dev nD) : Vec F S256x128 .f32 :=
  pM.view.readAt (Elt F) (Rect.unit (s := S1024x1024) (pOff σ s k c) S256x128.size (pOff_inb σ s k c)).toLoadRect (P m ρ c)

/-- What device `c` sends on the ring copy `(σ, s, k)`: its chunk, with what it received on hop `s - 1` added. -/
def ringV (σ : Fin 2) (k : Fin 4) : ℕ → Dev nD → Vec F S1x1x256x128 .bf16
  | 0, c => k0_pay7 (pChunk m ρ σ 0 k c)
  | s + 1, c => k0_pay17 (pChunk m ρ σ (s + 1) k c) (ringV σ k s (src (.inl (σ, 0, k)) c))

theorem pBlk_inb (b : Fin 4) (σ : Fin 2) (k : Fin 4) (c : Dev nD) :
    ∀ a, (![256 * (c.val % 4) + 64 * b.val, 512 * σ.val + 128 * k.val] : Fin 2 → ℕ) a + S64x128.size a ≤ S1024x1024.size a := fun a => by
  match a with
  | ⟨0, _⟩ => show 256 * (c.val % 4) + 64 * b.val + 64 ≤ 1024; omega
  | ⟨1, _⟩ => show 512 * σ.val + 128 * k.val + 128 ≤ 1024; omega

/-- The chunk `(σ, k)` of the rows of plane `b` within device `c`'s own row group. -/
def pBlk (b : Fin 4) (σ : Fin 2) (k : Fin 4) (c : Dev nD) : Vec F S64x128 .f32 :=
  pM.view.readAt (Elt F) (Rect.unit (s := S1024x1024) ![256 * (c.val % 4) + 64 * b.val, 512 * σ.val + 128 * k.val] S64x128.size
    (pBlk_inb b σ k c)).toLoadRect (P m ρ c)

theorem rBlk_inb (b : Fin 4) : ∀ a, (![0, 0, 64 * b.val, 0] : Fin 4 → ℕ) a + S1x1x64x128.size a ≤ S1x1x256x128.size a := by
  revert b; decide

/-- The rows of plane `b` of what device `c` received on the last hop. -/
def rBlk (b : Fin 4) (σ : Fin 2) (k : Fin 4) (c : Dev nD) : Vec F S1x1x64x128 .bf16 :=
  fun i => ringV m ρ σ k 2 (src (.inl (σ, 2, k)) c) ((Rect.unit (s := S1x1x256x128) ![0, 0, 64 * b.val, 0] S1x1x64x128.size (rBlk_inb b)).emb i)

/-- Their sum: the sum over the ring of device `c`. -/
def red (b : Fin 4) (σ : Fin 2) (k : Fin 4) (c : Dev nD) : FVec F S64x128 .f32 := k0_pay45 (pBlk m ρ b σ k c) (rBlk m ρ b σ k c)

/-- What device `c` sends to the other planes: its ring sum of the rows of the receiving plane. -/
def planeV (b : Fin 4) (c : Dev nD) : Vec F S1x64x1024 .bf16 :=
  k0_pay44 (red m ρ b 0 0 c) (red m ρ b 0 1 c) (red m ρ b 0 2 c) (red m ρ b 0 3 c) (red m ρ b 1 0 c) (red m ρ b 1 1 c)
    (red m ρ b 1 2 c) (pBlk m ρ b 1 3 c) (rBlk m ρ b 1 3 c)

set_option backward.proofsInPublic true in
/-- The plane that device `c` sends to on plane copy `r`, and its own plane. -/
def toPlane (r : Fin 3) (c : Dev nD) : Fin 4 := ⟨(c.val / 4 + 3 - r.val) % 4, by omega⟩
set_option backward.proofsInPublic true in
def ownPlane (c : Dev nD) : Fin 4 := ⟨c.val / 4, by have := c.isLt; change c.val < 16 at this; omega⟩

/-- What device `c` sends on channel `n`. -/
def X : (n : Ch) → (c : Dev nD) → Vec F (slotR n).shape .bf16
  | .inl (σ, s, k), c => ringV m ρ σ k s.val c
  | .inr r, c => planeV m ρ (toPlane r c) c

/-- The ring sum of device `c`'s own rows. -/
def ownV (c : Dev nD) : FVec F S64x1024 .f32 :=
  k0_pay69 (red m ρ (ownPlane c) 0 0 c) (red m ρ (ownPlane c) 0 1 c) (red m ρ (ownPlane c) 0 2 c) (red m ρ (ownPlane c) 0 3 c)
    (red m ρ (ownPlane c) 1 0 c) (red m ρ (ownPlane c) 1 1 c) (red m ρ (ownPlane c) 1 2 c) (pBlk m ρ (ownPlane c) 1 3 c)
    (rBlk m ρ (ownPlane c) 1 3 c)

/-- The result of device `c`. -/
def outV (c : Dev nD) : (cc0_stg2_0 : Ref sig .tc).ty.Contents (Elt F) :=
  k0_pay70 (ownV m ρ c) (X m ρ (.inr 0) (src (.inr 0) c)) (X m ρ (.inr 1) (src (.inr 1) c)) (X m ρ (.inr 2) (src (.inr 2) c))

/-! ## What is held of the slots -/

/-- The send slot of channel `n` on device `c`, at any contents. -/
def srcAny (n : Ch) (c : Dev nD) : sProp 𝕄 :=
  iprop(∃ f, (sSlot n).view.loc (c : Thread nD τ) ↦[(sSlot n).view.set]{fullShare} f)
/-- The landing slot of channel `n` on device `c`, at any contents. -/
def dstAny (n : Ch) (c : Dev nD) : sProp 𝕄 :=
  iprop(∃ f, (rSlot n).view.loc (c : Thread nD τ) ↦[(rSlot n).view.set]{fullShare} f)
/-- The landing slot of channel `n` on device `c`, holding what `src n c` sent. -/
def dstVal (n : Ch) (c : Dev nD) : sProp 𝕄 :=
  iprop(∃ f, ⌜((rBuf n).access (slotR n)).read (Elt F) f = X m ρ n (src n c)⌝
    ∗ (rSlot n).view.loc (c : Thread nD τ) ↦[(rSlot n).view.set]{fullShare} f)

omit [FloatOps F] in
instance srcAny_storable (n : Ch) (c : Dev nD) : BI.Storable (upEmb : UEmb _ 𝕄) (srcAny (F := F) n c) := by unfold srcAny; infer_instance
omit [FloatOps F] in
instance dstAny_storable (n : Ch) (c : Dev nD) : BI.Storable (upEmb : UEmb _ 𝕄) (dstAny (F := F) n c) := by unfold dstAny; infer_instance
instance dstVal_storable (n : Ch) (c : Dev nD) : BI.Storable (upEmb : UEmb _ 𝕄) (dstVal m ρ n c) := by unfold dstVal; infer_instance

/-! ## The schedule of the semaphores -/

theorem Ncr_pos (n : Ch) : 0 < Ncr n := by
  match n with
  | .inl (⟨0, _⟩, _, _) => exact View.dmaCredit_pos _ (show 0 < S256x128.numel by decide)
  | .inl (⟨1, _⟩, _, _) => exact View.dmaCredit_pos _ (show 0 < S256x128.numel by decide)
  | .inr _ => exact View.dmaCredit_pos _ (show 0 < S64x1024.numel by decide)

/-- What the signal of direction `i` to device `c`'s barrier hands over: the landing slots, on the peer in direction `i`'s
    side, of the channels whose senders see it so. -/
def barPay (c : Dev nD) (i : Fin 5) : sProp 𝕄 := bigSep (Finset.univ.filter fun n => cls n = i) fun n => dstAny n (tgt n c)

/-- One round. The barrier has five contributions of one unit; a send and a receive semaphore one of the copy's credit. -/
def Rd : Rounds.Schedule (GSem nD τ sig) D 𝕄 where
  duties g r := if r = 0 ∧ g.1.2 = .tc then
      (match cix g.2 with
        | some none => Finset.univ
        | some (some _) => {0}
        | none => ∅)
    else ∅
  unitless _ := False
  amount g _ _ := match cix g.2 with
    | some (some (_, n)) => Ncr n
    | _ => 1
  payload g _ i := match cix g.2 with
    | some none => barPay g.1.1 i
    | some (some (false, n)) => srcAny n g.1.1
    | some (some (true, n)) => dstVal m ρ n g.1.1
    | none => iprop(emp)
  amount_pos g _ _ _ := by
    split
    · exact Ncr_pos _
    · exact Nat.one_pos

instance barPay_storable (c : Dev nD) (i : Fin 5) : BI.Storable (upEmb : UEmb _ 𝕄) (barPay (F := F) c i) := by unfold barPay; infer_instance

instance Rd_storable (g : GSem nD τ sig) (r : ℕ) (i : D) : BI.Storable (upEmb : UEmb _ 𝕄) ((Rd (F := F) m ρ).payload g r i) := by
  dsimp only [Rd]
  split <;> infer_instance

section Sched
variable (c : Dev nD) (n : Ch) (b : Bool) (i : D)

theorem duties_bar : (Rd (F := F) m ρ).duties (barCell c) 0 = Finset.univ := by
  dsimp only [Rd]; rw [if_pos ⟨rfl, rfl⟩, show (SemLoc.reg barS : SemLoc sig) = csem none from rfl, cix_csem]
theorem duties_chan : (Rd (F := F) m ρ).duties ((c : Thread nD τ), osem (b, n)) 0 = {0} := by
  dsimp only [Rd]; rw [if_pos ⟨rfl, rfl⟩, show (osem (b, n) : SemLoc sig) = csem (some (b, n)) from rfl, cix_csem]
theorem duties_later (g : GSem nD τ sig) : ∀ r, 1 ≤ r → (Rd (F := F) m ρ).duties g r = ∅ :=
  fun r hr => by dsimp only [Rd]; rw [if_neg fun h => by omega]
theorem amount_bar : (Rd (F := F) m ρ).amount (barCell c) 0 i = 1 := by
  dsimp only [Rd]; rw [show (SemLoc.reg barS : SemLoc sig) = csem none from rfl, cix_csem]
theorem amount_chan : (Rd (F := F) m ρ).amount ((c : Thread nD τ), osem (b, n)) 0 i = Ncr n := by
  dsimp only [Rd]; rw [show (osem (b, n) : SemLoc sig) = csem (some (b, n)) from rfl, cix_csem]
theorem payload_bar : (Rd (F := F) m ρ).payload (barCell c) 0 i = barPay c i := by
  dsimp only [Rd]; rw [show (SemLoc.reg barS : SemLoc sig) = csem none from rfl, cix_csem]
theorem payload_send : (Rd (F := F) m ρ).payload (sendCell n c) 0 i = srcAny n c := by
  dsimp only [Rd]; rw [show (osem (false, n) : SemLoc sig) = csem (some (false, n)) from rfl, cix_csem]
theorem payload_recv : (Rd (F := F) m ρ).payload (recvCell n c) 0 i = dstVal m ρ n c := by
  dsimp only [Rd]; rw [show (osem (true, n) : SemLoc sig) = csem (some (true, n)) from rfl, cix_csem]

theorem expect_bar : (Rd (F := F) m ρ).expect (barCell c) 0 = 5 := by
  unfold Schedule.expect Schedule.amountOf
  rw [duties_bar, Finset.sum_congr rfl fun i _ => amount_bar m ρ c i]
  decide
theorem expect_chan : (Rd (F := F) m ρ).expect ((c : Thread nD τ), osem (b, n)) 0 = Ncr n := by
  unfold Schedule.expect Schedule.amountOf; rw [duties_chan, Finset.sum_singleton, amount_chan]

/-- The barrier's five payloads together: all the landing slots that `c` will send into. -/
theorem rest_bar : bigSep ((Rd (F := F) m ρ).duties (barCell c) 0 \ ∅) (fun i => (Rd (F := F) m ρ).payload (barCell c) 0 i)
    = bigSep Finset.univ fun n => dstAny n (tgt n c) := by
  rw [Finset.sdiff_empty, duties_bar, bigSep_congr fun i _ => payload_bar m ρ c i]
  unfold barPay
  rw [BI.bigSep_fiberwise Finset.univ cls (fun n => dstAny (F := F) n (tgt n c)), show Finset.univ.image cls = Finset.univ from by decide +kernel]
theorem rest_send : bigSep ((Rd (F := F) m ρ).duties (sendCell n c) 0 \ ∅) (fun i => (Rd (F := F) m ρ).payload (sendCell n c) 0 i) = srcAny n c := by
  rw [Finset.sdiff_empty, duties_chan, bigSep_singleton, payload_send]
theorem rest_recv : bigSep ((Rd (F := F) m ρ).duties (recvCell n c) 0 \ ∅) (fun i => (Rd (F := F) m ρ).payload (recvCell n c) 0 i) = dstVal m ρ n c := by
  rw [Finset.sdiff_empty, duties_chan, bigSep_singleton, payload_recv]

end Sched

/-! ## What a device owes, and the levels -/

/-- The landings device `c` still owes when it has sent on the first `t` channels. -/
def oweS (t : ℕ) (c : Dev nD) : CellTallies nD τ sig Unit :=
  ∑ n ∈ Finset.univ.filter (fun n : Ch => t ≤ ord n), tallyAt (recvCell n (tgt n c)) () (Ncr n)
/-- The barrier units device `c` still owes when it has signalled its first `i` peers. -/
def oweB (i : ℕ) (c : Dev nD) : CellTallies nD τ sig Unit :=
  ∑ j ∈ Finset.univ.filter (fun j : Fin 5 => i ≤ j.val), tallyAt (barCell (nbr j c)) () 1

theorem oweS_step (n : Ch) (c : Dev nD) : oweS (ord n) c = oweS (ord n + 1) c + tallyAt (recvCell n (tgt n c)) () (Ncr n) := by
  unfold oweS
  rw [show (Finset.univ.filter fun n' : Ch => ord n ≤ ord n') = insert n (Finset.univ.filter fun n' : Ch => ord n + 1 ≤ ord n') from ?_,
    Finset.sum_insert (by rw [Finset.mem_filter]; omega), add_comm]
  ext n'
  rw [Finset.mem_insert, Finset.mem_filter, Finset.mem_filter]
  constructor
  · rintro ⟨-, h⟩
    rcases Nat.eq_or_lt_of_le h with h | h
    · exact Or.inl (ord_inj h).symm
    · exact Or.inr ⟨Finset.mem_univ _, h⟩
  · rintro (rfl | ⟨-, h⟩)
    · exact ⟨Finset.mem_univ _, le_refl _⟩
    · exact ⟨Finset.mem_univ _, by omega⟩

theorem oweB_step (j : Fin 5) (c : Dev nD) : oweB j.val c = oweB (j.val + 1) c + tallyAt (barCell (nbr j c)) () 1 := by
  unfold oweB
  rw [show (Finset.univ.filter fun j' : Fin 5 => j.val ≤ j'.val) = insert j (Finset.univ.filter fun j' : Fin 5 => j.val + 1 ≤ j'.val) from ?_,
    Finset.sum_insert (by rw [Finset.mem_filter]; omega), add_comm]
  ext j'
  rw [Finset.mem_insert, Finset.mem_filter, Finset.mem_filter, Fin.ext_iff]
  simp only [Finset.mem_univ, true_and]
  omega

theorem oweS_end (c : Dev nD) : oweS 27 c = 0 := by
  unfold oweS
  rw [show (Finset.univ.filter fun n : Ch => 27 ≤ ord n) = ∅ from by decide +kernel, Finset.sum_empty]
theorem oweB_end (c : Dev nD) : oweB 5 c = 0 := by
  unfold oweB
  rw [show (Finset.univ.filter fun j : Fin 5 => 5 ≤ j.val) = ∅ from by decide +kernel, Finset.sum_empty]

def L (g : GSem nD τ sig) : Finset Unit := if g.1.2 = .tc then {()} else ∅

/-- The levels: a barrier at 1, the receive semaphores above it in the order `ord`, everything else at 0. -/
def lv (g : GSem nD τ sig) (_ : Unit) : ℕ := match cix g.2 with
  | some none => 1
  | some (some (true, n)) => 2 + ord n
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  dsimp only [lv]; rw [show (SemLoc.reg barS : SemLoc sig) = csem none from rfl, cix_csem]
theorem lv_recv (n : Ch) (c : Dev nD) : lv (recvCell n c) () = 2 + ord n := by
  dsimp only [lv]; rw [show (osem (true, n) : SemLoc sig) = csem (some (true, n)) from rfl, cix_csem]

theorem oweS_pos {t : ℕ} {c : Dev nD} {g : GSem nD τ sig} {u : Unit} (h : 0 < oweS t c g u) : ∃ n, t ≤ ord n ∧ g = recvCell n (tgt n c) := by
  unfold oweS at h
  rw [Finset.sum_apply, Finsupp.finsetSum_apply] at h
  obtain ⟨n, hn, hp⟩ := Finset.exists_ne_zero_of_sum_ne_zero (Nat.pos_iff_ne_zero.mp h)
  refine ⟨n, (Finset.mem_filter.mp hn).2, ?_⟩
  rw [tallyAt_apply] at hp
  by_contra hne
  exact hp (if_neg fun h' => hne h'.1)

theorem oweB_pos {i : ℕ} {c : Dev nD} {g : GSem nD τ sig} {u : Unit} (h : 0 < oweB i c g u) : ∃ j, g = barCell (nbr j c) := by
  unfold oweB at h
  rw [Finset.sum_apply, Finsupp.finsetSum_apply] at h
  obtain ⟨n, hn, hp⟩ := Finset.exists_ne_zero_of_sum_ne_zero (Nat.pos_iff_ne_zero.mp h)
  refine ⟨n, ?_⟩
  rw [tallyAt_apply] at hp
  by_contra hne
  exact hp (if_neg fun h' => hne h'.1)

/-- What device `c` owes at launch. -/
def O₀ (c : Dev nD) : CellTallies nD τ sig Unit := oweS 0 c + oweB 0 c

theorem O₀_pos {c : Dev nD} {g : GSem nD τ sig} {u : Unit} (h : 0 < O₀ c g u) :
    (∃ n, g = recvCell n (tgt n c)) ∨ ∃ j, g = barCell (nbr j c) := by
  unfold O₀ at h
  rw [Pi.add_apply, Finsupp.add_apply] at h
  rcases Nat.eq_zero_or_pos (oweS 0 c g u) with h0 | h0
  · rw [h0, zero_add] at h; exact Or.inr (oweB_pos h)
  · obtain ⟨n, -, hn⟩ := oweS_pos h0; exact Or.inl ⟨n, hn⟩

/-- A wait on a semaphore that is no cell of the exchange is allowed throughout. -/
theorem mayWait_stage (c : Dev nD) (q : DmaSem sig) (hq : ∀ x, csem x ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, rfl⟩ | ⟨j, rfl⟩ <;> exact Finset.mem_singleton_self _)
      (fun p hp => by rw [Finset.mem_singleton.mp hp]; dsimp only [lv]; rw [cix_of_not hq])
      (fun g u hg => by
        rcases O₀_pos hg with ⟨n, rfl⟩ | ⟨j, rfl⟩
        · rw [lv_recv]; omega
        · rw [lv_bar]; omega)
  · rw [MayWait_zero]; iintro -; iempintro

/-- The wait on the barrier: only landings are owed then, and those lie above it. -/
theorem mayWait_bar (c : Dev nD) : (levAts L lv : sProp 𝕄) ⊢ MayWait (c : Thread nD τ) (.reg barS) () (oweS 0 c) :=
  MayOwe.of_cut (L := L) (lev := lv) 1 (fun p hp => by rw [Finset.mem_singleton.mp hp, L_tc]; exact Finset.mem_singleton_self _)
    (fun g u hg => by obtain ⟨n, -, rfl⟩ := oweS_pos hg; exact Finset.mem_singleton_self _)
    (fun p hp => by rw [Finset.mem_singleton.mp hp]; exact le_of_eq (lv_bar c))
    (fun g u hg => by obtain ⟨n, -, rfl⟩ := oweS_pos hg; rw [lv_recv]; omega)

/-- The wait for a landing on channel `n`: only landings on later channels are owed then. -/
theorem mayWait_recv (c : Dev nD) (n : Ch) (t : ℕ) (h : ord n < t) :
    (levAts L lv : sProp 𝕄) ⊢ MayWait (c : Thread nD τ) (osem (true, n)) () (oweS t c) :=
  MayOwe.of_cut (L := L) (lev := lv) (2 + ord n) (fun p hp => by rw [Finset.mem_singleton.mp hp, L_tc]; exact Finset.mem_singleton_self _)
    (fun g u hg => by obtain ⟨n, -, rfl⟩ := oweS_pos hg; exact Finset.mem_singleton_self _)
    (fun p hp => by rw [Finset.mem_singleton.mp hp]; exact le_of_eq (lv_recv n c))
    (fun g u hg => by obtain ⟨n', hn', rfl⟩ := oweS_pos hg; rw [lv_recv]; omega)

end Cert.Exchange
-- ==== Proof.Steps.lean ====
/-
# The steps of a device, one rule per kind

What a device holds between two steps is `RS K c t u v o`: it has sent on the first `t` channels, has waited for the
landings on the first `u` and for the completion of its sends on the first `v` (in the order `ord`), and holds its result
buffer as `o`. Each rule moves a goal about the program that starts with one step to a goal about the rest.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots: sets and contents -/

omit [FloatOps F] in
theorem sSlot_set (n : Ch) : (sSlot n).view.set = ((sBuf n).access (slotR n)).set := View.set_reshape _ _
omit [FloatOps F] in
theorem rSlot_set (n : Ch) : (rSlot n).view.set = ((rBuf n).access (slotR n)).set := View.set_reshape _ _

omit [FloatOps F] in
/-- A copy between two reshaped views moves what the plain views read. -/
theorem read_copy {κ κ' : Kind} {sp sp' : Space} {s s' : Shape} {e : EltTy} (v : View sig κ sp s e) (v' : View sig κ' sp' s e)
    (h : s'.numel = s.numel) (fd : v.ty.Contents (Elt F)) (fs : v'.ty.Contents (Elt F)) :
    v.read (Elt F) ((v.reshape s' h).write (Elt F) fd ((v'.reshape s' h).read (Elt F) fs) Finset.univ) = v'.read (Elt F) fs := by
  have hr := View.read_write_univ (Val := Elt F) (v := v.reshape s' h) fd ((v'.reshape s' h).read (Elt F) fs)
  funext i
  have := congrFun hr ((Shape.reshapeEquiv h).symm i)
  have e1 : ∀ g : v.ty.Contents (Elt F), (v.reshape s' h).read (Elt F) g ((Shape.reshapeEquiv h).symm i) = v.read (Elt F) g i := fun g => by
    show v.read (Elt F) g (Shape.reshapeEquiv h ((Shape.reshapeEquiv h).symm i)) = _
    rw [Equiv.apply_symm_apply]
  have e2 : (v'.reshape s' h).read (Elt F) fs ((Shape.reshapeEquiv h).symm i) = v'.read (Elt F) fs i := by
    show v'.read (Elt F) fs (Shape.reshapeEquiv h ((Shape.reshapeEquiv h).symm i)) = _
    rw [Equiv.apply_symm_apply]
  rw [e1, e2] at this
  exact this

/-! ## Counting along the channels -/

/-- Over the channels from place `t` on, -/
def from_ (t : ℕ) (Φ : Ch → sProp 𝕄) : sProp 𝕄 := bigSep (Finset.univ.filter fun n => t ≤ ord n) Φ
/-- before place `t`, -/
def upto (t : ℕ) (Φ : Ch → sProp 𝕄) : sProp 𝕄 := bigSep (Finset.univ.filter fun n => ord n < t) Φ
/-- and between two places. -/
def btw (v t : ℕ) (Φ : Ch → sProp 𝕄) : sProp 𝕄 := bigSep (Finset.univ.filter fun n => v ≤ ord n ∧ ord n < t) Φ

omit [FloatOps F] in
theorem from_peel (n : Ch) (Φ : Ch → sProp 𝕄) : from_ (ord n) Φ = iprop(Φ n ∗ from_ (ord n + 1) Φ) := by
  unfold from_
  rw [show (Finset.univ.filter fun n' : Ch => ord n ≤ ord n') = insert n (Finset.univ.filter fun n' : Ch => ord n + 1 ≤ ord n') from ?_,
    BI.bigSep_insert (by rw [Finset.mem_filter]; omega)]
  · rfl
  ext n'
  rw [Finset.mem_insert, Finset.mem_filter, Finset.mem_filter, ← ord_inj.eq_iff]
  simp only [Finset.mem_univ, true_and]
  omega

omit [FloatOps F] in
theorem upto_push (n : Ch) (Φ : Ch → sProp 𝕄) : upto (ord n + 1) Φ = iprop(Φ n ∗ upto (ord n) Φ) := by
  unfold upto
  rw [show (Finset.univ.filter fun n' : Ch => ord n' < ord n + 1) = insert n (Finset.univ.filter fun n' : Ch => ord n' < ord n) from ?_,
    BI.bigSep_insert (by rw [Finset.mem_filter]; omega)]
  · rfl
  ext n'
  rw [Finset.mem_insert, Finset.mem_filter, Finset.mem_filter, ← ord_inj.eq_iff]
  simp only [Finset.mem_univ, true_and]
  omega

omit [FloatOps F] in
theorem btw_push (n : Ch) (v : ℕ) (h : v ≤ ord n) (Φ : Ch → sProp 𝕄) : btw v (ord n + 1) Φ = iprop(Φ n ∗ btw v (ord n) Φ) := by
  unfold btw
  rw [show (Finset.univ.filter fun n' : Ch => v ≤ ord n' ∧ ord n' < ord n + 1) = insert n (Finset.univ.filter fun n' : Ch => v ≤ ord n' ∧ ord n' < ord n) from ?_,
    BI.bigSep_insert (by rw [Finset.mem_filter]; omega)]
  · rfl
  ext n'
  rw [Finset.mem_insert, Finset.mem_filter, Finset.mem_filter, ← ord_inj.eq_iff]
  simp only [Finset.mem_univ, true_and]
  omega

omit [FloatOps F] in
theorem btw_peel (n : Ch) (t : ℕ) (h : ord n < t) (Φ : Ch → sProp 𝕄) : btw (ord n) t Φ = iprop(Φ n ∗ btw (ord n + 1) t Φ) := by
  unfold btw
  rw [show (Finset.univ.filter fun n' : Ch => ord n ≤ ord n' ∧ ord n' < t) = insert n (Finset.univ.filter fun n' : Ch => ord n + 1 ≤ ord n' ∧ ord n' < t) from ?_,
    BI.bigSep_insert (by rw [Finset.mem_filter]; omega)]
  · rfl
  ext n'
  rw [Finset.mem_insert, Finset.mem_filter, Finset.mem_filter, ← ord_inj.eq_iff]
  simp only [Finset.mem_univ, true_and]
  omega

omit [FloatOps F] in
/-- One of the channels before place `t`, and the others. -/
theorem upto_take (n : Ch) (t : ℕ) (h : ord n < t) (Φ : Ch → sProp 𝕄) :
    upto t Φ = iprop(Φ n ∗ bigSep ((Finset.univ.filter fun n' : Ch => ord n' < t).erase n) Φ) := by
  unfold upto
  exact BI.bigSep_erase (Finset.mem_filter (p := fun n' : Ch => ord n' < t) |>.mpr ⟨Finset.mem_univ n, h⟩)

/-! ## What a device holds -/

/-- The invariants of all the cells, under the names `K`, and that each cell has started. -/
def records (K : Dev nD × CX → ℕ) : sProp 𝕄 :=
  bigSep Finset.univ fun ck : Dev nD × CX => iprop(cellInv ER (Rd m ρ) (K ck) (kcell ck) ∗ reached ER (kcell ck) 0)

instance records_persistent (K : Dev nD × CX → ℕ) : BI.Persistent (records m ρ K) := by unfold records; infer_instance

theorem records_get (K : Dev nD × CX → ℕ) (ck : Dev nD × CX) :
    records m ρ K ⊢ iprop(cellInv ER (Rd m ρ) (K ck) (kcell ck) ∗ reached ER (kcell ck) 0) := by
  unfold records; exact BI.bigSep_elim (i := ck) (Finset.mem_univ ck)

/-- A channel not yet sent on: both slots, both tokens, the place at the send semaphore. -/
def toSend (c : Dev nD) (n : Ch) : sProp 𝕄 :=
  iprop(dstAny n (tgt n c) ∗ srcAny n c ∗ dutyTok ER (sendCell n c) 0 0 ∗ dutyTok ER (recvCell n (tgt n c)) 0 0 ∗ atPos ER (sendCell n c) 0 ∅ 0)
/-- A channel sent on and not yet waited for. -/
def sent (c : Dev nD) (n : Ch) : sProp 𝕄 := iprop(cred (tallyAt (sendCell n c) () (Ncr n)) ∗ atPos ER (sendCell n c) 0 ∅ 0)
/-- A channel whose send has completed. -/
def sdone (c : Dev nD) (n : Ch) : sProp 𝕄 := iprop(srcAny n c ∗ semVal (sendCell n c) 0)
/-- A channel whose landing is still to be waited for. -/
def toRecv (c : Dev nD) (n : Ch) : sProp 𝕄 := iprop(cred (tallyAt (recvCell n c) () (Ncr n)) ∗ atPos ER (recvCell n c) 0 ∅ 0)
/-- A channel whose landing has been waited for. -/
def recvd (c : Dev nD) (n : Ch) : sProp 𝕄 := iprop(dstVal m ρ n c ∗ semVal (recvCell n c) 0)

abbrev pPts (c : Dev nD) (f : (cc0_scratch0 : Ref sig .tc).ty.Contents (Elt F)) : sProp 𝕄 :=
  (pM.view.loc (c : Thread nD τ)) ↦{fullShare} f
abbrev oPts (c : Dev nD) (f : (cc0_stg2_0 : Ref sig .tc).ty.Contents (Elt F)) : sProp 𝕄 :=
  (oM.view.loc (c : Thread nD τ)) ↦{fullShare} f
abbrev xPts (c : Dev nD) : sProp 𝕄 := (xM.view.loc (c : Thread nD τ)) ↦{fullShare} xstg m ρ c
abbrev wPts (c : Dev nD) : sProp 𝕄 := (wM.view.loc (c : Thread nD τ)) ↦{fullShare} wstg m ρ c

/-- The state of device `c` after the barrier. -/
def RS (K : Dev nD × CX → ℕ) (c : Dev nD) (t u v : ℕ) (o : sProp 𝕄) : sProp 𝕄 :=
  iprop(records m ρ K ∗ levAts L lv ∗ xPts m ρ c ∗ wPts m ρ c ∗ o ∗ semVal (barCell c) 0 ∗ pPts c (P m ρ c)
    ∗ from_ t (toSend c) ∗ btw v t (sent c) ∗ upto v (sdone c) ∗ from_ u (toRecv c) ∗ upto u (recvd m ρ c)
    ∗ ∃ W, owes (c : Thread nD τ) (oweS t c) W)

variable (K : Dev nD × CX → ℕ) {c : Dev nD} {t u v : ℕ} {o : sProp (MT nD τ sig Unit (Elt F) ℕ UU ℕ)} {α : Type}
  {Q : α → sProp (MT nD τ sig Unit (Elt F) ℕ UU ℕ)}

/-- A goal about the program `p` on device `c`. -/
abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The rules -/

/-- A load, of elements which the state gives and takes back. -/
theorem step_load {S : sProp 𝕄} {s : Shape} {e : EltTy} {M : Memref sig .tc .vmem s e} {r : LoadRect s} {hl : M.view.LoadsAt r}
    {k : (r.shape.Idx → Elt F e) → Prog (TpuEff nD τ sig (Elt F) Λ₀ .tc) α}
    {I : Finset (Idx (M.view.loc (c : Thread nD τ)))} {φ : Buf (Elt F) (M.view.loc (c : Thread nD τ)) → Prop}
    (hI : M.view.setOn r.set ⊆ I)
    (hacc : S ⊢ iprop(∃ f, ⌜φ f⌝ ∗ (M.view.loc (c : Thread nD τ) ↦[I]{fullShare} f) ∗ ((M.view.loc (c : Thread nD τ) ↦[I]{fullShare} f) -∗ S)))
    (h : ∀ f, φ f → (S ⊢ WP c (k (M.view.readAt (Elt F) r f)) Q)) : S ⊢ WP c (.op (.load M r hl) k) Q := by
  iintro HS
  ihave H := hacc $$ HS
  icases H with ⟨%f, %hf, Hp, Hr⟩
  iapply (wp_load 𝒱₀ (c : Thread nD τ) none Set.univ (m := M) hI) $$ Hp
  iintro Hp
  iapply (h f hf)
  iapply Hr
  iexact Hp

/-- The state gives the partial product. -/
theorem acc_p : RS m ρ K c t u v o ⊢ iprop(∃ f, ⌜f = P m ρ c⌝ ∗ pPts c f ∗ (pPts c f -∗ RS m ρ K c t u v o)) := by
  unfold RS
  iintro ⟨#HR, #HL, Hx, Hw, Ho, Hb, Hp, H1, H2, H3, H4, H5, H6⟩
  iexists _
  isplitr; · (ipureintro; rfl)
  isplitl [Hp]; · iexact Hp
  iintro Hp
  iframe
  isplitr; · iexact HR
  iexact HL

/-- Reading a part of the partial product. -/
theorem step_p {off size : Fin 2 → ℕ} (off' : Fin 2 → ℕ) (hoff : off = off') {inb : ∀ a, off a + size a ≤ S1024x1024.size a}
    (inb' : ∀ a, off' a + size a ≤ S1024x1024.size a) {hl : pM.view.LoadsAt (Rect.unit (s := S1024x1024) off size inb).toLoadRect}
    {k : ((Rect.unit (s := S1024x1024) off size inb).toLoadRect.shape.Idx → Elt F .f32) → Prog (TpuEff nD τ sig (Elt F) Λ₀ .tc) α}
    (h : RS m ρ K c t u v o ⊢ WP c (k (pM.view.readAt (Elt F) (Rect.unit (s := S1024x1024) off' size inb').toLoadRect (P m ρ c))) Q) :
    RS m ρ K c t u v o ⊢ WP c (.op (.load pM (Rect.unit (s := S1024x1024) off size inb).toLoadRect hl) k) Q := by
  subst hoff
  exact step_load (Finset.subset_univ _) (acc_p m ρ K) fun f hf => by rw [hf]; exact h

/-- Reading the chunk of a ring copy. -/
theorem step_chunk (σ : Fin 2) (s : ℕ) (j : Fin 4) {off : Fin 2 → ℕ} (hoff : off = pOff σ s j c) {inb : ∀ a, off a + S256x128.size a ≤ S1024x1024.size a}
    {hl : pM.view.LoadsAt (Rect.unit (s := S1024x1024) off S256x128.size inb).toLoadRect}
    {k : ((Rect.unit (s := S1024x1024) off S256x128.size inb).toLoadRect.shape.Idx → Elt F .f32) → Prog (TpuEff nD τ sig (Elt F) Λ₀ .tc) α}
    (h : RS m ρ K c t u v o ⊢ WP c (k (pChunk m ρ σ s j c)) Q) :
    RS m ρ K c t u v o ⊢ WP c (.op (.load pM (Rect.unit (s := S1024x1024) off S256x128.size inb).toLoadRect hl) k) Q :=
  step_p m ρ K _ hoff (pOff_inb σ s j c) h

/-- Reading the rows of plane `b` of a chunk of the device's own row group. -/
theorem step_pblk (b : Fin 4) (σ : Fin 2) (j : Fin 4) {off : Fin 2 → ℕ} (hoff : off = ![256 * (c.val % 4) + 64 * b.val, 512 * σ.val + 128 * j.val])
    {inb : ∀ a, off a + S64x128.size a ≤ S1024x1024.size a}
    {hl : pM.view.LoadsAt (Rect.unit (s := S1024x1024) off S64x128.size inb).toLoadRect}
    {k : ((Rect.unit (s := S1024x1024) off S64x128.size inb).toLoadRect.shape.Idx → Elt F .f32) → Prog (TpuEff nD τ sig (Elt F) Λ₀ .tc) α}
    (h : RS m ρ K c t u v o ⊢ WP c (k (pBlk m ρ b σ j c)) Q) :
    RS m ρ K c t u v o ⊢ WP c (.op (.load pM (Rect.unit (s := S1024x1024) off S64x128.size inb).toLoadRect hl) k) Q :=
  step_p m ρ K _ hoff (pBlk_inb b σ j c) h

/-- The state gives the send slot of the next channel. -/
theorem acc_src (n : Ch) (ht : ord n = t) : RS m ρ K c t u v o ⊢ iprop(∃ f, ⌜True⌝ ∗
    ((sSlot n).view.loc (c : Thread nD τ) ↦[(sSlot n).view.set]{fullShare} f)
    ∗ (((sSlot n).view.loc (c : Thread nD τ) ↦[(sSlot n).view.set]{fullShare} f) -∗ RS m ρ K c t u v o)) := by
  subst ht
  unfold RS
  rw [from_peel]
  unfold toSend
  unfold srcAny
  iintro ⟨#HR, #HL, Hx, Hw, Ho, Hb, Hp, ⟨⟨H0, ⟨%f, Hf⟩, Ht⟩, H1⟩, H2⟩
  iexists f
  isplitr; · (ipureintro; trivial)
  isplitl [Hf]; · iexact Hf
  iintro Hf
  iframe
  isplitr; · iexact HR
  isplitr; · iexact HL
  iexists f
  iexact Hf

/-- The read of a send slot before it is written: what it gives is not used. -/
theorem step_sload (n : Ch) (ht : ord n = t) {hl : (sBuf n).view.LoadsAt (slotR n).toLoadRect}
    {k : ((slotR n).toLoadRect.shape.Idx → Elt F .bf16) → Prog (TpuEff nD τ sig (Elt F) Λ₀ .tc) α}
    (h : ∀ w, RS m ρ K c t u v o ⊢ WP c (k w) Q) :
    RS m ρ K c t u v o ⊢ WP c (.op (.load (sBuf n) (slotR n).toLoadRect hl) k) Q := by
  refine step_load (M := sBuf n) (I := (sSlot n).view.set) (φ := fun _ => True) ?_ (acc_src m ρ K n ht) fun f _ => h _
  rw [sSlot_set]
  exact Finset.subset_of_eq (View.set_slice _ _).symm

/-- The state gives a landed slot. -/
theorem acc_recvd (n : Ch) (hu : ord n < u) : RS m ρ K c t u v o ⊢ iprop(∃ f, ⌜((rBuf n).access (slotR n)).read (Elt F) f = X m ρ n (src n c)⌝ ∗
    ((rSlot n).view.loc (c : Thread nD τ) ↦[(rSlot n).view.set]{fullShare} f)
    ∗ (((rSlot n).view.loc (c : Thread nD τ) ↦[(rSlot n).view.set]{fullShare} f) -∗ RS m ρ K c t u v o)) := by
  unfold RS
  rw [upto_take n u hu (recvd m ρ c)]
  unfold recvd dstVal
  iintro ⟨#HR, #HL, Hx, Hw, Ho, Hb, Hp, H1, H2, H3, H4, ⟨⟨⟨%f, %hf, Hf⟩, Hz⟩, H5⟩, H6⟩
  iexists f
  isplitr; · (ipureintro; exact hf)
  isplitl [Hf]; · iexact Hf
  iintro Hf
  iframe
  isplitr; · iexact HR
  isplitr; · iexact HL
  iexists f
  isplitr; · (ipureintro; exact hf)
  iexact Hf

/-- The read of a landed slot: what the sender sent. -/
theorem step_rload (n : Ch) (hu : ord n < u) {hl : (rBuf n).view.LoadsAt (slotR n).toLoadRect}
    {k : ((slotR n).toLoadRect.shape.Idx → Elt F .bf16) → Prog (TpuEff nD τ sig (Elt F) Λ₀ .tc) α}
    (h : RS m ρ K c t u v o ⊢ WP c (k (X m ρ n (src n c))) Q) :
    RS m ρ K c t u v o ⊢ WP c (.op (.load (rBuf n) (slotR n).toLoadRect hl) k) Q := by
  refine step_load (M := rBuf n) (I := (rSlot n).view.set) ?_ (acc_recvd m ρ K n hu) fun f hf => ?_
  · rw [rSlot_set]
    exact Finset.subset_of_eq (View.set_slice _ _).symm
  · rw [View.readAt_rect, hf]
    exact h

theorem rRect_inb (k : Fin 4) (b : Fin 4) : ∀ a, (![2, k.val, 64 * b.val, 0] : Fin 4 → ℕ) a + S1x1x64x128.size a ≤ S3x4x256x128.size a := by
  revert k b; decide

omit [FloatOps F] in
theorem rRect_emb (k : Fin 4) (b : Fin 4) (i) :
    (Rect.unit (s := S3x4x256x128) ![2, k.val, 64 * b.val, 0] S1x1x64x128.size (rRect_inb k b)).emb i
      = (slotR (.inl (0, 2, k))).emb ((Rect.unit (s := S1x1x256x128) ![0, 0, 64 * b.val, 0] S1x1x64x128.size (rBlk_inb b)).emb i) := by
  funext a
  apply Fin.ext
  rw [Rect.emb_apply, Rect.emb_apply, Rect.emb_apply]
  match a with
  | ⟨0, _⟩ => simp [Rect.unit]
  | ⟨1, _⟩ => simp [Rect.unit]
  | ⟨2, _⟩ => simp [Rect.unit]
  | ⟨3, _⟩ => simp [Rect.unit]

/-- The read of the rows of plane `b` of a slot landed on the last hop. -/
theorem step_rblk (b : Fin 4) (σ : Fin 2) (j : Fin 4) (hu : ord (.inl (σ, 2, j)) < u) {off : Fin 4 → ℕ} (hoff : off = ![2, j.val, 64 * b.val, 0])
    {inb : ∀ a, off a + S1x1x64x128.size a ≤ S3x4x256x128.size a}
    {hl : (rBuf (.inl (σ, 2, j))).view.LoadsAt (Rect.unit (s := S3x4x256x128) off S1x1x64x128.size inb).toLoadRect}
    {k : ((Rect.unit (s := S3x4x256x128) off S1x1x64x128.size inb).toLoadRect.shape.Idx → Elt F .bf16) → Prog (TpuEff nD τ sig (Elt F) Λ₀ .tc) α}
    (h : RS m ρ K c t u v o ⊢ WP c (k (rBlk m ρ b σ j c)) Q) :
    RS m ρ K c t u v o ⊢ WP c (.op (.load (rBuf (.inl (σ, 2, j))) (Rect.unit (s := S3x4x256x128) off S1x1x64x128.size inb).toLoadRect hl) k) Q := by
  subst hoff
  refine step_load (M := rBuf (.inl (σ, 2, j))) (I := (rSlot (.inl (σ, 2, j))).view.set) ?_ (acc_recvd m ρ K (.inl (σ, 2, j)) hu) fun f hf => ?_
  · rw [rSlot_set, View.set_slice]
    intro y hy
    obtain ⟨x, hx, rfl⟩ := Finset.mem_map.mp hy
    refine Finset.mem_map_of_mem _ ?_
    rw [Rect.mem_set_unit] at hx ⊢
    intro a
    have h1 := hx a
    match a with
    | ⟨0, _⟩ => simpa using h1
    | ⟨1, _⟩ => simpa using h1
    | ⟨2, _⟩ =>
      have h2 : 64 * b.val ≤ (x (2 : Fin 4)).val ∧ (x (2 : Fin 4)).val < 64 * b.val + 64 := h1
      have := b.isLt
      show 0 ≤ (x (2 : Fin 4)).val ∧ (x (2 : Fin 4)).val < 0 + 256
      omega
    | ⟨3, _⟩ => simpa using h1
  · have e : (rBuf (.inl (σ, 2, j))).view.readAt (Elt F) (Rect.unit (s := S3x4x256x128) ![2, j.val, 64 * b.val, 0] S1x1x64x128.size inb).toLoadRect f
        = rBlk m ρ b σ j c := by
      funext i
      have hi := congrFun hf ((Rect.unit (s := S1x1x256x128) ![0, 0, 64 * b.val, 0] S1x1x64x128.size (rBlk_inb b)).emb i)
      refine Eq.trans ?_ hi
      show (rBuf (.inl (σ, 2, j))).view.read (Elt F) f ((Rect.unit (s := S3x4x256x128) ![2, j.val, 64 * b.val, 0] S1x1x64x128.size inb).emb i) = _
      rw [rRect_emb j b i]
      rfl
    rw [e]
    exact h

theorem sSlot_credit (n : Ch) : (sSlot n).view.dmaCredit = Ncr n := by
  match n with
  | .inl (⟨0, _⟩, _, _) => rfl
  | .inl (⟨1, _⟩, _, _) => rfl
  | .inr _ => rfl

/-- A send slot, whatever it holds, is what a completed send hands back. -/
theorem pay_back (n : Ch) (c : Dev nD) (f : Buf (Elt F) ((sSlot n).view.loc (c : Thread nD τ))) :
    ((sSlot n).view.loc (c : Thread nD τ) ↦[(sSlot n).view.set]{fullShare} f) ⊢ (Rd m ρ).payload (sendCell n c) 0 0 := by
  rw [payload_send]
  unfold srcAny
  iintro H
  iexists f
  iexact H

/-- A slot on which a copy of a channel's contents landed is what the landing hands over. -/
theorem pay_land (n : Ch) (c : Dev nD) (f : Buf (Elt F) ((sSlot n).view.loc (c : Thread nD τ)))
    (hf : ((sBuf n).access (slotR n)).read (Elt F) f = X m ρ n c) (fd : Buf (Elt F) ((rSlot n).view.loc (tgt n c : Thread nD τ))) :
    ((rSlot n).view.loc (tgt n c : Thread nD τ) ↦[(rSlot n).view.set]{fullShare}
        (rSlot n).view.write (Elt F) fd ((sSlot n).view.read (Elt F) f) Finset.univ) ⊢ (Rd m ρ).payload (recvCell n (tgt n c)) 0 0 := by
  rw [payload_recv]
  unfold dstVal
  iintro H
  iexists _
  isplitr
  rotate_left
  · iexact H
  · ipureintro
    rw [src_tgt, ← hf]
    exact read_copy ((rBuf n).access (slotR n)) ((sBuf n).access (slotR n)) _ _ _

/-- The copy of a send slot into the slot of the same channel on the target. -/
theorem wp_chan (n : Ch) (c : Dev nD) {d : Dev nD} (hd : d = tgt n c) (f : Buf (Elt F) ((sSlot n).view.loc (c : Thread nD τ)))
    (hf : ((sBuf n).access (slotR n)).read (Elt F) f = X m ρ n c) (fd : Buf (Elt F) ((rSlot n).view.loc (tgt n c : Thread nD τ)))
    {W : Waits sig Unit}
    {hsc : (rSlot n : Memref sig (Dev.tc d : Thread nD τ).2.kind .vmem (Sh n) .bf16).view.ref.isScScratch = false}
    {hsrc : (sSlot n).view.WordExact} {hdst : (rSlot n).view.WordExact}
    {hsem : DmaTarget.Typed .vmem (.dma (dsem (true, n))) (.remote (Dev.tc d : Thread nD τ) (rSlot n) (.dma (dsem (false, n))) hsc)}
    {k : PUnit → Prog (TpuEff nD τ sig (Elt F) Λ₀ .tc) α} :
    iprop(cellInv ER (Rd m ρ) (K (c, some (false, n))) (sendCell n c)
      ∗ cellInv ER (Rd m ρ) (K (tgt n c, some (true, n))) (recvCell n (tgt n c))
      ∗ ((sSlot n).view.loc (c : Thread nD τ) ↦[(sSlot n).view.set]{fullShare} f)
      ∗ ((rSlot n).view.loc (tgt n c : Thread nD τ) ↦[(rSlot n).view.set]{fullShare} fd)
      ∗ owes (c : Thread nD τ) (oweS (ord n) c) W
      ∗ dutyTok ER (sendCell n c) 0 0 ∗ reached ER (sendCell n c) 0
      ∗ dutyTok ER (recvCell n (tgt n c)) 0 0 ∗ reached ER (recvCell n (tgt n c)) 0
      ∗ (cred (tallyAt (sendCell n c) () (Ncr n)) ∗ owes (c : Thread nD τ) (oweS (ord n + 1) c) W -∗ WP c (k ⟨⟩) Q)) ⊢
    WP c (.op (.enqueueDma (sSlot n) (.remote (Dev.tc d : Thread nD τ) (rSlot n) (.dma (dsem (false, n))) hsc) (.dma (dsem (true, n))) hsrc hdst hsem) k) Q := by
  subst hd
  rw [oweS_step n c]
  iintro ⟨#HSi, #HVi, Hf, Hd, HO, HtS, #HSr, HtV, #HVr, Hk⟩
  iapply (Rounds.wp_send_pointsTo 𝒱₀ ER (Rd m ρ) (c : Thread nD τ) none (κ₁ := K (c, some (false, n))) (κ₂ := K (tgt n c, some (true, n)))
    (r₁ := 0) (r₂ := 0) (d₁ := 0) (d₂ := 0) (fs := f) (fd := fd)
    (by rw [duties_chan]; exact Finset.mem_singleton_self _) (by rw [duties_chan]; exact Finset.mem_singleton_self _)
    () () (Ncr n) rfl (amount_chan m ρ c n false 0) (amount_chan m ρ (tgt n c) n true 0) (oweS (ord n + 1) c) rfl (W := W)
    (pay_back m ρ n c f) (pay_land m ρ n c f hf fd)) $$ [HO Hf Hd HtS HtV]
  · isplitr; · iexact HSi
    isplitr; · iexact HVi
    isplitl [Hf]; · iexact Hf
    isplitl [Hd]; · iexact Hd
    isplitl [HO]; · iexact HO
    isplitl [HtS]; · iexact HtS
    isplitr; · iexact HSr
    isplitl [HtV]; · iexact HtV
    iexact HVr
  iexact Hk

/-- The state of device `c` when the send slot of channel `n`, the next one, has been written and the copy not yet begun. -/
def RW (K : Dev nD × CX → ℕ) (c : Dev nD) (n : Ch) (u v : ℕ) (o : sProp 𝕄) : sProp 𝕄 :=
  iprop(records m ρ K ∗ levAts L lv ∗ xPts m ρ c ∗ wPts m ρ c ∗ o ∗ semVal (barCell c) 0 ∗ pPts c (P m ρ c)
    ∗ (dstAny n (tgt n c)
      ∗ (∃ f, ⌜((sBuf n).access (slotR n)).read (Elt F) f = X m ρ n c⌝ ∗ (sSlot n).view.loc (c : Thread nD τ) ↦[(sSlot n).view.set]{fullShare} f)
      ∗ dutyTok ER (sendCell n c) 0 0 ∗ dutyTok ER (recvCell n (tgt n c)) 0 0 ∗ atPos ER (sendCell n c) 0 ∅ 0)
    ∗ from_ (ord n + 1) (toSend c) ∗ btw v (ord n) (sent c) ∗ upto v (sdone c) ∗ from_ u (toRecv c) ∗ upto u (recvd m ρ c)
    ∗ ∃ W, owes (c : Thread nD τ) (oweS (ord n) c) W)

/-- The write of a send slot. -/
theorem step_sstore (n : Ch) (ht : ord n = t) {w : (slotR n).shape.Idx → Elt F .bf16} (hw : w = X m ρ n c)
    {hx : ((sBuf n).access (slotR n)).Stores Finset.univ} {hm : (Finset.univ : Finset (slotR n).shape.Idx) = Finset.univ ∨ ∀ a, (slotR n).stride a = 1}
    {k : PUnit → Prog (TpuEff nD τ sig (Elt F) Λ₀ .tc) α} (h : RW m ρ K c n u v o ⊢ WP c (k ⟨⟩) Q) :
    RS m ρ K c t u v o ⊢ WP c (.op (.store (sBuf n) (slotR n) w Finset.univ hx hm) k) Q := by
  subst ht hw
  unfold RS
  unfold RW at h
  rw [from_peel, toSend]
  unfold srcAny
  iintro ⟨#HR, #HL, Hx, Hw, Ho, Hb, Hp, ⟨⟨Hd, ⟨%f, Hf⟩, Ht⟩, H1⟩, H2⟩
  iapply (wp_store 𝒱₀ (c : Thread nD τ) none Set.univ (m := sBuf n) (r := slotR n) (Mk := Finset.univ) (S := (sSlot n).view.set) (f := f)
    (by rw [sSlot_set, View.setOn_univ])) $$ Hf
  iintro Hf
  iapply h
  iframe
  isplitr; · iexact HR
  isplitr; · iexact HL
  iexists ((sBuf n).access (slotR n)).write (Elt F) f (X m ρ n c) Finset.univ
  isplitr; · (ipureintro; exact View.read_write_univ (v := (sBuf n).access (slotR n)) f (X m ρ n c))
  iexact Hf

/-- The copy that carries a written send slot off. -/
theorem step_send (n : Ch) (hv : v ≤ ord n)
    {d : Dev nD} (hd : d = tgt n c) {ss rs : DmaSem sig} (hss : ss = dsem (false, n)) (hrs : rs = dsem (true, n))
    {hsc : (rSlot n : Memref sig (Dev.tc d : Thread nD τ).2.kind .vmem (Sh n) .bf16).view.ref.isScScratch = false}
    {hsrc : (sSlot n).view.WordExact} {hdst : (rSlot n).view.WordExact}
    {hsem : DmaTarget.Typed .vmem (.dma rs) (.remote (Dev.tc d : Thread nD τ) (rSlot n) (.dma ss) hsc)}
    {k : PUnit → Prog (TpuEff nD τ sig (Elt F) Λ₀ .tc) α} (h : RS m ρ K c (ord n + 1) u v o ⊢ WP c (k ⟨⟩) Q) :
    RW m ρ K c n u v o ⊢ WP c (.op (.enqueueDma (sSlot n) (.remote (Dev.tc d : Thread nD τ) (rSlot n) (.dma ss) hsc) (.dma rs) hsrc hdst hsem) k) Q := by
  subst hss hrs
  unfold RW
  unfold RS at h
  unfold dstAny
  iintro ⟨#HR, #HL, Hx, Hw, Ho, Hb, Hp, ⟨⟨%fd, Hd⟩, ⟨%f, %hf, Hf⟩, HtS, HtV, HaS⟩, H1, H2, H3, H4, H5, %W, HO⟩
  ihave #HS := records_get m ρ K (c, some (false, n)) $$ HR
  ihave #HV := records_get m ρ K (tgt n c, some (true, n)) $$ HR
  icases HS with ⟨#HSi, #HSr⟩
  icases HV with ⟨#HVi, #HVr⟩
  iapply (wp_chan m ρ K n c hd f hf fd (W := W))
  isplitr; · iexact HSi
  isplitr; · iexact HVi
  isplitl [Hf]; · iexact Hf
  isplitl [Hd]; · iexact Hd
  isplitl [HO]; · iexact HO
  isplitl [HtS]; · iexact HtS
  isplitr; · iexact HSr
  isplitl [HtV]; · iexact HtV
  isplitr; · iexact HVr
  iintro ⟨Hc, HO⟩
  iapply h
  rw [btw_push n v hv (sent c), sent]
  iframe
  isplitr; · iexact HR
  isplitr; · iexact HL
  iexists W
  iexact HO

/-- The wait for a landing: the slot holds what the sender sent, and the semaphore is done with. -/
theorem step_recv (n : Ch) (hu : ord n = u) (ht : ord n < t) {rs : DmaSem sig} (hrs : rs = dsem (true, n))
    {hsrc : (sSlot n).view.WordExact} {hdst : (rSlot n).view.WordExact}
    {k : PUnit → Prog (TpuEff nD τ sig (Elt F) Λ₀ .tc) α}
    (h : RS m ρ K c t (u + 1) v o ⊢ WP c (k ⟨⟩) Q) :
    RS m ρ K c t u v o ⊢ WP c (.op (.waitDma2 rs (sSlot n) (rSlot n) hsrc hdst) k) Q := by
  subst hrs hu
  unfold RS
  rw [from_peel]
  rw [toRecv]
  iintro ⟨#HR, #HL, Hx, Hw, Ho, Hb, Hp, H1, H2, H3, ⟨⟨Hc, Ha⟩, H4⟩, H5, %W, HO⟩
  ihave #HV := records_get m ρ K (c, some (true, n)) $$ HR
  icases HV with ⟨#HVi, #HVr⟩
  iapply (Rounds.wp_wait_rest_token 𝒱₀ ER (Rd m ρ) (c : Thread nD τ) none (κ := K (c, some (true, n)))
      (wpE_waitDma2_eq 𝒱₀ (c : Thread nD τ) none Set.univ) (Set.mem_univ _) () (O := oweS t c) (W := W) (R := 0) (m := 0) (T := ∅)
      (by rw [Nat.zero_add, expect_chan])) $$ [Hc HO Ha]
  · isplitr; · iexact HVi
    isplitl [Hc]; · iexact Hc
    isplitl [HO]; · iexact HO
    isplitr; · iapply (mayWait_recv c n t ht); iexact HL
    iexact Ha
  iintro ⟨HO, Ha, -, Hpay⟩
  ihave Hd := (Entails.of_eq (rest_recv m ρ c n)) $$ Hpay
  imod (Rounds.cell_close ER (Rd m ρ) (Set.mem_univ (K (c, some (true, n)))) (fun h => h) (R := 0 + 1) (duties_later m ρ (recvCell n c))) $$ [Ha] with Hz
  · isplitr; · iexact HVi
    iexact Ha
  iapply h
  unfold RS
  rw [upto_push n (recvd m ρ c)]
  rw [recvd]
  iframe
  isplitr; · iexact HR
  isplitr; · iexact HL
  iexists _
  iexact HO

/-- The wait for the completion of a send, when nothing is owed any more: the slot is back, and the semaphore is done with. -/
theorem step_sdone (n : Ch) (hv : ord n = v) {ss : DmaSem sig} (hss : ss = dsem (false, n))
    {hsrc : (rSlot n).view.WordExact} {hdst : (sSlot n).view.WordExact}
    {k : PUnit → Prog (TpuEff nD τ sig (Elt F) Λ₀ .tc) α}
    (h : RS m ρ K c 27 u (v + 1) o ⊢ WP c (k ⟨⟩) Q) :
    RS m ρ K c 27 u v o ⊢ WP c (.op (.waitDma2 ss (rSlot n) (sSlot n) hsrc hdst) k) Q := by
  have hn : ord n < 27 := (by decide +kernel : ∀ n, ord n < 27) n
  subst hss hv
  unfold RS
  rw [btw_peel n 27 hn, oweS_end]
  rw [sent]
  iintro ⟨#HR, #HL, Hx, Hw, Ho, Hb, Hp, H1, ⟨⟨Hc, Ha⟩, H2⟩, H3, H4, H5, %W, HO⟩
  ihave #HV := records_get m ρ K (c, some (false, n)) $$ HR
  icases HV with ⟨#HVi, #HVr⟩
  iapply (Rounds.wp_wait_rest_token 𝒱₀ ER (Rd m ρ) (c : Thread nD τ) none (κ := K (c, some (false, n)))
      (wpE_waitDma2_eq 𝒱₀ (c : Thread nD τ) none Set.univ) (Set.mem_univ _) () (O := 0) (W := W) (R := 0) (m := 0) (T := ∅)
      (by rw [Nat.zero_add, expect_chan, sSlot_credit n])) $$ [Hc HO Ha]
  · isplitr; · iexact HVi
    isplitl [Hc]; · iexact Hc
    isplitl [HO]; · iexact HO
    isplitr; · rw [MayWait_zero]; iempintro
    iexact Ha
  iintro ⟨HO, Ha, -, Hpay⟩
  ihave Hd := (Entails.of_eq (rest_send m ρ c n)) $$ Hpay
  imod (Rounds.cell_close ER (Rd m ρ) (Set.mem_univ (K (c, some (false, n)))) (fun h => h) (R := 0 + 1) (duties_later m ρ (sendCell n c))) $$ [Ha] with Hz
  · isplitr; · iexact HVi
    iexact Ha
  iapply h
  unfold RS
  rw [upto_push n (sdone c), oweS_end]
  rw [sdone]
  iframe
  isplitr; · iexact HR
  isplitr; · iexact HL
  iexists _
  iexact HO

/-- The read of the result's buffer before it is written: what it gives is not used. -/
theorem step_oload {f : (cc0_stg2_0 : Ref sig .tc).ty.Contents (Elt F)} {r : LoadRect S64x1024} {hl : oM.view.LoadsAt r}
    {k : (r.shape.Idx → Elt F .f32) → Prog (TpuEff nD τ sig (Elt F) Λ₀ .tc) α}
    (h : ∀ w, RS m ρ K c t u v (oPts c f) ⊢ WP c (k w) Q) : RS m ρ K c t u v (oPts c f) ⊢ WP c (.op (.load oM r hl) k) Q := by
  refine step_load (M := oM) (I := Finset.univ) (φ := fun _ => True) (Finset.subset_univ _) ?_ fun f' _ => h _
  unfold RS
  iintro ⟨#HR, #HL, Hx, Hw, Ho, H1⟩
  iexists f
  isplitr; · (ipureintro; trivial)
  isplitl [Ho]; · iexact Ho
  iintro Ho
  iframe
  isplitr; · iexact HR
  iexact HL

omit [FloatOps F] in
theorem off2_zero : (![0, 0] : Fin 2 → ℕ) = fun _ => 0 := by decide

/-- The write of the result. -/
theorem step_ostore {f w : (cc0_stg2_0 : Ref sig .tc).ty.Contents (Elt F)}
    {inb : ∀ a, (![0, 0] : Fin 2 → ℕ) a + S64x1024.size a ≤ S64x1024.size a}
    {hx : (oM.access (Rect.unit (s := S64x1024) ![0, 0] S64x1024.size inb)).Stores Finset.univ} {hm}
    {k : PUnit → Prog (TpuEff nD τ sig (Elt F) Λ₀ .tc) α} (h : RS m ρ K c t u v (oPts c w) ⊢ WP c (k ⟨⟩) Q) :
    RS m ρ K c t u v (oPts c f) ⊢ WP c (.op (.store oM (Rect.unit (s := S64x1024) ![0, 0] S64x1024.size inb) w Finset.univ hx hm) k) Q := by
  have e : (oM.access (Rect.unit (s := S64x1024) ![0, 0] S64x1024.size inb)).write (Elt F) f w Finset.univ = w :=
    Memref.write_access_unit_zero_univ (Elt F) cc0_stg2_0 off2_zero inb f w
  unfold RS at h ⊢
  iintro ⟨#HR, #HL, Hx, Hw, Ho, H1⟩
  iapply (wp_store 𝒱₀ (c : Thread nD τ) none Set.univ (m := oM) (r := Rect.unit (s := S64x1024) ![0, 0] S64x1024.size inb)
    (Mk := Finset.univ) (S := Finset.univ) (f := f) (Finset.subset_univ _)) $$ Ho
  rw [e]
  iintro Ho
  iapply h
  iframe
  isplitr; · iexact HR
  iexact HL

/-- The end of a stretch of the program. -/
theorem step_ret {S : sProp 𝕄} {x : α} (h : S ⊢ Q x) : S ⊢ WP c (.ret x) Q := by
  unfold WP
  rw [wp_ret]
  iintro HS
  imodintro
  iapply h
  iexact HS

/-! ## Before the barrier -/

/-- A channel, but for the landing slot it sends into. -/
def keep (c : Dev nD) (n : Ch) : sProp 𝕄 :=
  iprop(srcAny n c ∗ dutyTok ER (sendCell n c) 0 0 ∗ dutyTok ER (recvCell n (tgt n c)) 0 0 ∗ atPos ER (sendCell n c) 0 ∅ 0)
/-- A signal to be given, with the landing slots that it hands over. -/
def toSig (c : Dev nD) (j : Fin 5) : sProp 𝕄 := iprop(barPay (nbr j c) j ∗ dutyTok ER (barCell (nbr j c)) 0 j)

/-- The state of device `c` before the barrier, `i` signals given. -/
def SG (K : Dev nD × CX → ℕ) (c : Dev nD) (i : ℕ) (o : sProp 𝕄) (f : (cc0_scratch0 : Ref sig .tc).ty.Contents (Elt F)) : sProp 𝕄 :=
  iprop(records m ρ K ∗ levAts L lv ∗ xPts m ρ c ∗ wPts m ρ c ∗ o ∗ pPts c f
    ∗ bigSep Finset.univ (keep c) ∗ from_ 0 (toRecv c) ∗ bigSep (Finset.univ.filter fun j : Fin 5 => i ≤ j.val) (toSig c)
    ∗ cred (tallyAt (barCell c) () 5) ∗ atPos ER (barCell c) 0 ∅ 0
    ∗ ∃ W, owes (c : Thread nD τ) (oweS 0 c + oweB i c) W)

omit [FloatOps F] in
theorem sig_peel (j : Fin 5) (Φ : Fin 5 → sProp 𝕄) : bigSep (Finset.univ.filter fun j' : Fin 5 => j.val ≤ j'.val) Φ
    = iprop(Φ j ∗ bigSep (Finset.univ.filter fun j' : Fin 5 => j.val + 1 ≤ j'.val) Φ) := by
  rw [show (Finset.univ.filter fun j' : Fin 5 => j.val ≤ j'.val) = insert j (Finset.univ.filter fun j' : Fin 5 => j.val + 1 ≤ j'.val) from ?_,
    BI.bigSep_insert (by rw [Finset.mem_filter]; omega)]
  · rfl
  ext j'
  rw [Finset.mem_insert, Finset.mem_filter, Finset.mem_filter, Fin.ext_iff]
  simp only [Finset.mem_univ, true_and]
  omega

variable {i : ℕ} {f : (cc0_scratch0 : Ref sig .tc).ty.Contents (Elt F)}

/-- The signal to the peer in direction `j`. -/
theorem step_sig (j : Fin 5) (hi : j.val = i) {d : Dev nD} (hd : d = nbr j c) {sm : Sem sig} (hs : sm = barS)
    {k : PUnit → Prog (TpuEff nD τ sig (Elt F) Λ₀ .tc) α} (h : SG m ρ K c (i + 1) o f ⊢ WP c (k ⟨⟩) Q) :
    SG m ρ K c i o f ⊢ WP c (.op (.semSignal (d, .tc) sm (1#32 : BitVec 32).toInt) k) Q := by
  subst hi hd hs
  unfold SG at h ⊢
  rw [sig_peel j, toSig]
  rw [oweB_step j c, ← add_assoc]
  iintro ⟨#HR, #HL, Hx, Hw, Ho, Hp, Hk, Hr, ⟨⟨Hpay, Ht⟩, H1⟩, Hc, Ha, %W, HO⟩
  ihave #HV := records_get m ρ K (nbr j c, none) $$ HR
  icases HV with ⟨#HVi, #HVr⟩
  iapply (Rounds.wp_signal 𝒱₀ ER (Rd m ρ) (c : Thread nD τ) none (dst := (nbr j c : Thread nD τ)) (κ := K (nbr j c, none))
      (d := j) (by rw [duties_bar]; exact Finset.mem_univ _) ((amount_bar m ρ (nbr j c) j).trans (by decide)) () (oweS 0 c + oweB (j.val + 1) c) rfl)
    $$ [HO Ht Hpay]
  · isplitr; · iexact HVi
    isplitl [HO]; · iexact HO
    isplitl [Ht]; · iexact Ht
    isplitl [Hpay]; · rw [payload_bar]; iexact Hpay
    iexact HVr
  iintro HO
  iapply h
  iframe
  isplitr; · iexact HR
  isplitr; · iexact HL
  iexists W
  iexact HO

/-- A read of the block of `x`. -/
theorem step_x {r : LoadRect S1024x64} {hl : xM.view.LoadsAt r}
    {k : (r.shape.Idx → Elt F .bf16) → Prog (TpuEff nD τ sig (Elt F) Λ₀ .tc) α}
    (h : SG m ρ K c i o f ⊢ WP c (k (xM.view.readAt (Elt F) r (xstg m ρ c))) Q) :
    SG m ρ K c i o f ⊢ WP c (.op (.load xM r hl) k) Q := by
  refine step_load (M := xM) (I := Finset.univ) (φ := fun g => g = xstg m ρ c) (Finset.subset_univ _) ?_ fun g hg => by rw [hg]; exact h
  unfold SG
  iintro ⟨#HR, #HL, Hx, H1⟩
  iexists xstg m ρ c
  isplitr; · (ipureintro; rfl)
  isplitl [Hx]; · iexact Hx
  iintro Hx
  iframe
  isplitr; · iexact HR
  iexact HL

/-- A read of the block of the second operand. -/
theorem step_w {r : LoadRect S64x1024} {hl : wM.view.LoadsAt r}
    {k : (r.shape.Idx → Elt F .bf16) → Prog (TpuEff nD τ sig (Elt F) Λ₀ .tc) α}
    (h : SG m ρ K c i o f ⊢ WP c (k (wM.view.readAt (Elt F) r (wstg m ρ c))) Q) :
    SG m ρ K c i o f ⊢ WP c (.op (.load wM r hl) k) Q := by
  refine step_load (M := wM) (I := Finset.univ) (φ := fun g => g = wstg m ρ c) (Finset.subset_univ _) ?_ fun g hg => by rw [hg]; exact h
  unfold SG
  iintro ⟨#HR, #HL, Hx, Hw, H1⟩
  iexists wstg m ρ c
  isplitr; · (ipureintro; rfl)
  isplitl [Hw]; · iexact Hw
  iintro Hw
  iframe
  isplitr; · iexact HR
  iexact HL

/-- The read of the partial product's buffer before it is written: what it gives is not used. -/
theorem step_p0 {r : LoadRect S1024x1024} {hl : pM.view.LoadsAt r}
    {k : (r.shape.Idx → Elt F .f32) → Prog (TpuEff nD τ sig (Elt F) Λ₀ .tc) α}
    (h : ∀ w, SG m ρ K c i o f ⊢ WP c (k w) Q) : SG m ρ K c i o f ⊢ WP c (.op (.load pM r hl) k) Q := by
  refine step_load (M := pM) (I := Finset.univ) (φ := fun _ => True) (Finset.subset_univ _) ?_ fun f' _ => h _
  unfold SG
  iintro ⟨#HR, #HL, Hx, Hw, Ho, Hp, H1⟩
  iexists f
  isplitr; · (ipureintro; trivial)
  isplitl [Hp]; · iexact Hp
  iintro Hp
  iframe
  isplitr; · iexact HR
  iexact HL

/-- The write of the partial product. -/
theorem step_pstore {w : (cc0_scratch0 : Ref sig .tc).ty.Contents (Elt F)}
    {inb : ∀ a, (![0, 0] : Fin 2 → ℕ) a + S1024x1024.size a ≤ S1024x1024.size a}
    {hx : (pM.access (Rect.unit (s := S1024x1024) ![0, 0] S1024x1024.size inb)).Stores Finset.univ} {hm}
    {k : PUnit → Prog (TpuEff nD τ sig (Elt F) Λ₀ .tc) α} (h : SG m ρ K c i o w ⊢ WP c (k ⟨⟩) Q) :
    SG m ρ K c i o f ⊢ WP c (.op (.store pM (Rect.unit (s := S1024x1024) ![0, 0] S1024x1024.size inb) w Finset.univ hx hm) k) Q := by
  have e : (pM.access (Rect.unit (s := S1024x1024) ![0, 0] S1024x1024.size inb)).write (Elt F) f w Finset.univ = w :=
    Memref.write_access_unit_zero_univ (Elt F) cc0_scratch0 off2_zero inb f w
  unfold SG at h ⊢
  iintro ⟨#HR, #HL, Hx, Hw, Ho, Hp, H1⟩
  iapply (wp_store 𝒱₀ (c : Thread nD τ) none Set.univ (m := pM) (r := Rect.unit (s := S1024x1024) ![0, 0] S1024x1024.size inb)
    (Mk := Finset.univ) (S := Finset.univ) (f := f) (Finset.subset_univ _)) $$ Hp
  rw [e]
  iintro Hp
  iapply h
  iframe
  isplitr; · iexact HR
  iexact HL

omit [FloatOps F] in
theorem from_zero (Φ : Ch → sProp 𝕄) : from_ 0 Φ = bigSep Finset.univ Φ := by
  unfold from_; rw [Finset.filter_true_of_mem fun _ _ => Nat.zero_le _]
omit [FloatOps F] in
theorem upto_zero (Φ : Ch → sProp 𝕄) : upto 0 Φ = iprop(emp) := by
  unfold upto; rw [Finset.filter_false_of_mem fun _ _ => Nat.not_lt_zero _, bigSep_empty]
  rfl
omit [FloatOps F] in
theorem upto_all (Φ : Ch → sProp 𝕄) : upto 27 Φ = bigSep Finset.univ Φ := by
  unfold upto; rw [Finset.filter_true_of_mem fun n _ => (by decide +kernel : ∀ n, ord n < 27) n]
omit [FloatOps F] in
theorem btw_zero (Φ : Ch → sProp 𝕄) : btw 0 0 Φ = iprop(emp) := by
  unfold btw; rw [Finset.filter_false_of_mem fun _ _ h => Nat.not_lt_zero _ h.2, bigSep_empty]
  rfl

/-- The wait on the barrier: the peers' landing slots come with it. -/
theorem step_bar {sm : Sem sig} (hs : sm = barS) {k : PUnit → Prog (TpuEff nD τ sig (Elt F) Λ₀ .tc) α}
    (h : RS m ρ K c 0 0 0 o ⊢ WP c (k ⟨⟩) Q) :
    SG m ρ K c 5 o (P m ρ c) ⊢ WP c (.op (.semWait sm (5#32 : BitVec 32).toInt) k) Q := by
  subst hs
  unfold SG
  unfold RS at h
  rw [oweB_end, add_zero]
  iintro ⟨#HR, #HL, Hx, Hw, Ho, Hp, Hk, Hr, -, Hc, Ha, %W, HO⟩
  ihave #HV := records_get m ρ K (c, none) $$ HR
  icases HV with ⟨#HVi, #HVr⟩
  iapply (Rounds.wp_wait_rest_token 𝒱₀ ER (Rd m ρ) (c : Thread nD τ) none (κ := K (c, none))
      (wpE_semWait_eq 𝒱₀ (c : Thread nD τ) none Set.univ) (Set.mem_univ _) () (O := oweS 0 c) (W := W) (R := 0) (m := 0) (T := ∅)
      (by rw [expect_bar]; decide)) $$ [Hc HO Ha]
  · isplitr; · iexact HVi
    isplitl [Hc]; · iexact Hc
    isplitl [HO]; · iexact HO
    isplitr; · iapply (mayWait_bar c); iexact HL
    iexact Ha
  iintro ⟨HO, Ha, -, Hpay⟩
  ihave Hd := (Entails.of_eq (rest_bar m ρ c)) $$ Hpay
  imod (Rounds.cell_close ER (Rd m ρ) (Set.mem_univ (K (c, none))) (fun h => h) (R := 0 + 1) (duties_later m ρ (barCell c))) $$ [Ha] with Hz
  · isplitr; · iexact HVi
    iexact Ha
  ihave Hs := (Entails.of_eq (bigSep_sep' Finset.univ (fun n => dstAny (F := F) n (tgt n c)) (keep c)).symm) $$ [Hd Hk]
  · isplitl [Hd]; · iexact Hd
    iexact Hk
  iapply h
  rw [from_zero (toSend c), upto_zero, upto_zero, btw_zero]
  iframe
  isplitr; · iexact HR
  isplitr; · iexact HL
  isplitl [Hs]
  · iexact Hs
  isplitr; · iempintro
  iexists _
  iexact HO

end Cert.Exchange
-- ==== Proof.Body.lean ====
/-
# The body, from its first signal to its last wait

One run of the kernel's body on a device `c`, as a chain of the rules of `Steps`: which channel a step belongs to, and
that the device it names and the offsets it computes are the channel's.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's body on device `c`, on the buffers it is called with. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10 cc0_scratch11 cc0_scratch12

variable (K : Dev nD × CX → ℕ)

/-- One part of the body, then the rest. -/
theorem step_bind {c : Dev nD} {α β : Type} {S : sProp 𝕄} {p : Prog (TpuEff nD τ sig (Elt F) Λ₀ .tc) α}
    {k : α → Prog (TpuEff nD τ sig (Elt F) Λ₀ .tc) β} {Q : β → sProp 𝕄} (h : S ⊢ WP c p fun a => WP c (k a) Q) :
    S ⊢ WP c (p >>= k) Q := by
  unfold WP at h ⊢
  rw [wp_bind]
  exact h

set_option maxHeartbeats 4000000 in
set_option maxRecDepth 4000 in
/-- From no signal given and nothing sent, the body runs to everything sent, landed and completed, with its result in the
result's buffer. -/
theorem body_run (c : Dev nD) (f : (cc0_scratch0 : Ref sig .tc).ty.Contents (Elt F))
    (g : (cc0_stg2_0 : Ref sig .tc).ty.Contents (Elt F)) :
    SG m ρ K c 0 (oPts c g) f ⊢ WP c (theBody (F := F)) fun _ => RS m ρ K c 27 27 27 (oPts c (outV m ρ c)) := by
  unfold theBody
  rw [cc0_body_eq_skeleton]; unfold cc0_body_skel
  refine step_bind ?_; rw [k0_part53_eq_skeleton]; unfold k0_part53_skel
  refine step_bind ?_; rw [k0_part1_eq_skeleton]; unfold k0_part1_skel
  simp only [Prog.lift, Prog.bind_op, Prog.bind_ret, Prog.pure_eq_ret, wp_deviceId]
  refine step_ret ?_
  try dsimp only
  refine step_bind ?_; rw [k0_part2_eq_skeleton]; unfold k0_part2_skel
  simp only [semSignalWord, semWaitWord, Prog.lift, Prog.bind_op, Prog.bind_ret, Prog.pure_eq_ret]
  refine step_sig m ρ K 0 rfl ((by decide +kernel : ∀ c : Dev nD, (⟨k0_dev1 c, k0_dev1_lt c⟩ : Dev nD) = nbr 0 c) c) rfl ?_
  refine step_sig m ρ K 1 rfl ((by decide +kernel : ∀ c : Dev nD, (⟨k0_dev2 c, k0_dev2_lt c⟩ : Dev nD) = nbr 1 c) c) rfl ?_
  refine step_sig m ρ K 2 rfl ((by decide +kernel : ∀ c : Dev nD, (⟨k0_dev3 c, k0_dev3_lt c⟩ : Dev nD) = nbr 2 c) c) rfl ?_
  refine step_sig m ρ K 3 rfl ((by decide +kernel : ∀ c : Dev nD, (⟨k0_dev4 c, k0_dev4_lt c⟩ : Dev nD) = nbr 3 c) c) rfl ?_
  refine step_sig m ρ K 4 rfl ((by decide +kernel : ∀ c : Dev nD, (⟨k0_dev5 c, k0_dev5_lt c⟩ : Dev nD) = nbr 4 c) c) rfl ?_
  refine step_x m ρ K ?_
  refine step_x m ρ K ?_
  refine step_x m ρ K ?_
  refine step_x m ρ K ?_
  refine step_x m ρ K ?_
  refine step_ret ?_
  try dsimp only
  refine step_bind ?_; rw [k0_part3_eq_skeleton]; unfold k0_part3_skel
  simp only [semSignalWord, semWaitWord, Prog.lift, Prog.bind_op, Prog.bind_ret, Prog.pure_eq_ret]
  refine step_x m ρ K ?_
  refine step_x m ρ K ?_
  refine step_x m ρ K ?_
  refine step_x m ρ K ?_
  refine step_x m ρ K ?_
  refine step_x m ρ K ?_
  refine step_x m ρ K ?_
  refine step_x m ρ K ?_
  refine step_x m ρ K ?_
  refine step_x m ρ K ?_
  refine step_x m ρ K ?_
  refine step_w m ρ K ?_
  refine step_p0 m ρ K fun _ => ?_
  refine step_pstore m ρ K ?_
  refine step_bar m ρ K rfl ?_
  refine step_ret ?_
  try dsimp only
  refine step_bind ?_; rw [k0_part4_eq_skeleton]; unfold k0_part4_skel
  simp only [semSignalWord, semWaitWord, Prog.lift, Prog.bind_op, Prog.bind_ret, Prog.pure_eq_ret]
  refine step_chunk m ρ K 0 0 0 ((by decide +kernel : ∀ c, k0_off1 c 0#32 = pOff 0 0 0 c) c) ?_
  refine step_sload m ρ K (.inl (0, 0, 0)) rfl fun _ => ?_
  refine step_sstore m ρ K (.inl (0, 0, 0)) rfl rfl ?_
  refine step_send m ρ K (.inl (0, 0, 0)) (by decide) ((by decide +kernel : ∀ c : Dev nD, (⟨k0_dev6 c, k0_dev6_lt c⟩ : Dev nD) = tgt (.inl (0, 0, 0)) c) c) rfl rfl ?_
  refine step_chunk m ρ K 0 0 1 ((by decide +kernel : ∀ c, k0_off2 c 0#32 = pOff 0 0 1 c) c) ?_
  refine step_ret ?_
  try dsimp only
  refine step_bind ?_; rw [k0_part5_eq_skeleton]; unfold k0_part5_skel
  simp only [semSignalWord, semWaitWord, Prog.lift, Prog.bind_op, Prog.bind_ret, Prog.pure_eq_ret]
  refine step_sload m ρ K (.inl (0, 0, 1)) rfl fun _ => ?_
  refine step_sstore m ρ K (.inl (0, 0, 1)) rfl rfl ?_
  refine step_send m ρ K (.inl (0, 0, 1)) (by decide) ((by decide +kernel : ∀ c : Dev nD, (⟨k0_dev7 c, k0_dev7_lt c⟩ : Dev nD) = tgt (.inl (0, 0, 1)) c) c) rfl rfl ?_
  refine step_chunk m ρ K 0 0 2 ((by decide +kernel : ∀ c, k0_off3 c 0#32 = pOff 0 0 2 c) c) ?_
  refine step_sload m ρ K (.inl (0, 0, 2)) rfl fun _ => ?_
  refine step_sstore m ρ K (.inl (0, 0, 2)) rfl rfl ?_
  refine step_ret ?_
  try dsimp only
  refine step_bind ?_; rw [k0_part6_eq_skeleton]; unfold k0_part6_skel
  simp only [semSignalWord, semWaitWord, Prog.lift, Prog.bind_op, Prog.bind_ret, Prog.pure_eq_ret]
  refine step_send m ρ K (.inl (0, 0, 2)) (by decide) ((by decide +kernel : ∀ c : Dev nD, (⟨k0_dev8 c, k0_dev8_lt c⟩ : Dev nD) = tgt (.inl (0, 0, 2)) c) c) rfl rfl ?_
  refine step_chunk m ρ K 0 0 3 ((by decide +kernel : ∀ c, k0_off4 c 0#32 = pOff 0 0 3 c) c) ?_
  refine step_sload m ρ K (.inl (0, 0, 3)) rfl fun _ => ?_
  refine step_sstore m ρ K (.inl (0, 0, 3)) rfl rfl ?_
  refine step_send m ρ K (.inl (0, 0, 3)) (by decide) ((by decide +kernel : ∀ c : Dev nD, (⟨k0_dev9 c, k0_dev9_lt c⟩ : Dev nD) = tgt (.inl (0, 0, 3)) c) c) rfl rfl ?_
  refine step_chunk m ρ K 1 0 0 ((by decide +kernel : ∀ c, k0_off5 c 0#32 = pOff 1 0 0 c) c) ?_
  refine step_ret ?_
  try dsimp only
  refine step_bind ?_; rw [k0_part7_eq_skeleton]; unfold k0_part7_skel
  simp only [semSignalWord, semWaitWord, Prog.lift, Prog.bind_op, Prog.bind_ret, Prog.pure_eq_ret]
  refine step_sload m ρ K (.inl (1, 0, 0)) rfl fun _ => ?_
  refine step_sstore m ρ K (.inl (1, 0, 0)) rfl rfl ?_
  refine step_send m ρ K (.inl (1, 0, 0)) (by decide) ((by decide +kernel : ∀ c : Dev nD, (⟨k0_dev10 c, k0_dev10_lt c⟩ : Dev nD) = tgt (.inl (1, 0, 0)) c) c) rfl rfl ?_
  refine step_chunk m ρ K 1 0 1 ((by decide +kernel : ∀ c, k0_off6 c 0#32 = pOff 1 0 1 c) c) ?_
  refine step_sload m ρ K (.inl (1, 0, 1)) rfl fun _ => ?_
  refine step_sstore m ρ K (.inl (1, 0, 1)) rfl rfl ?_
  refine step_ret ?_
  try dsimp only
  refine step_bind ?_; rw [k0_part8_eq_skeleton]; unfold k0_part8_skel
  simp only [semSignalWord, semWaitWord, Prog.lift, Prog.bind_op, Prog.bind_ret, Prog.pure_eq_ret]
  refine step_send m ρ K (.inl (1, 0, 1)) (by decide) ((by decide +kernel : ∀ c : Dev nD, (⟨k0_dev11 c, k0_dev11_lt c⟩ : Dev nD) = tgt (.inl (1, 0, 1)) c) c) rfl rfl ?_
  refine step_chunk m ρ K 1 0 2 ((by decide +kernel : ∀ c, k0_off7 c 0#32 = pOff 1 0 2 c) c) ?_
  refine step_sload m ρ K (.inl (1, 0, 2)) rfl fun _ => ?_
  refine step_sstore m ρ K (.inl (1, 0, 2)) rfl rfl ?_
  refine step_send m ρ K (.inl (1, 0, 2)) (by decide) ((by decide +kernel : ∀ c : Dev nD, (⟨k0_dev12 c, k0_dev12_lt c⟩ : Dev nD) = tgt (.inl (1, 0, 2)) c) c) rfl rfl ?_
  refine step_chunk m ρ K 1 0 3 ((by decide +kernel : ∀ c, k0_off8 c 0#32 = pOff 1 0 3 c) c) ?_
  refine step_sload m ρ K (.inl (1, 0, 3)) rfl fun _ => ?_
  refine step_ret ?_
  try dsimp only
  refine step_bind ?_; rw [k0_part9_eq_skeleton]; unfold k0_part9_skel
  simp only [semSignalWord, semWaitWord, Prog.lift, Prog.bind_op, Prog.bind_ret, Prog.pure_eq_ret]
  refine step_sstore m ρ K (.inl (1, 0, 3)) rfl rfl ?_
  refine step_send m ρ K (.inl (1, 0, 3)) (by decide) ((by decide +kernel : ∀ c : Dev nD, (⟨k0_dev13 c, k0_dev13_lt c⟩ : Dev nD) = tgt (.inl (1, 0, 3)) c) c) rfl rfl ?_
  refine step_chunk m ρ K 0 1 0 ((by decide +kernel : ∀ c, k0_off1 c 1#32 = pOff 0 1 0 c) c) ?_
  refine step_ret ?_
  try dsimp only
  refine step_bind ?_; rw [k0_part10_eq_skeleton]; unfold k0_part10_skel
  simp only [semSignalWord, semWaitWord, Prog.lift, Prog.bind_op, Prog.bind_ret, Prog.pure_eq_ret]
  refine step_recv m ρ K (.inl (0, 0, 0)) rfl (by decide) rfl ?_
  refine step_rload m ρ K (.inl (0, 0, 0)) (by decide) ?_
  refine step_sload m ρ K (.inl (0, 1, 0)) rfl fun _ => ?_
  refine step_sstore m ρ K (.inl (0, 1, 0)) rfl rfl ?_
  refine step_send m ρ K (.inl (0, 1, 0)) (by decide) ((by decide +kernel : ∀ c : Dev nD, (⟨k0_dev14 c, k0_dev14_lt c⟩ : Dev nD) = tgt (.inl (0, 1, 0)) c) c) rfl rfl ?_
  refine step_chunk m ρ K 0 1 1 ((by decide +kernel : ∀ c, k0_off2 c 1#32 = pOff 0 1 1 c) c) ?_
  refine step_ret ?_
  try dsimp only
  refine step_bind ?_; rw [k0_part11_eq_skeleton]; unfold k0_part11_skel
  simp only [semSignalWord, semWaitWord, Prog.lift, Prog.bind_op, Prog.bind_ret, Prog.pure_eq_ret]
  refine step_recv m ρ K (.inl (0, 0, 1)) rfl (by decide) rfl ?_
  refine step_rload m ρ K (.inl (0, 0, 1)) (by decide) ?_
  refine step_sload m ρ K (.inl (0, 1, 1)) rfl fun _ => ?_
  refine step_sstore m ρ K (.inl (0, 1, 1)) rfl rfl ?_
  refine step_send m ρ K (.inl (0, 1, 1)) (by decide) ((by decide +kernel : ∀ c : Dev nD, (⟨k0_dev15 c, k0_dev15_lt c⟩ : Dev nD) = tgt (.inl (0, 1, 1)) c) c) rfl rfl ?_
  refine step_ret ?_
  try dsimp only
  refine step_bind ?_; rw [k0_part12_eq_skeleton]; unfold k0_part12_skel
  simp only [semSignalWord, semWaitWord, Prog.lift, Prog.bind_op, Prog.bind_ret, Prog.pure_eq_ret]
  refine step_chunk m ρ K 0 1 2 ((by decide +kernel : ∀ c, k0_off3 c 1#32 = pOff 0 1 2 c) c) ?_
  refine step_recv m ρ K (.inl (0, 0, 2)) rfl (by decide) rfl ?_
  refine step_rload m ρ K (.inl (0, 0, 2)) (by decide) ?_
  refine step_sload m ρ K (.inl (0, 1, 2)) rfl fun _ => ?_
  refine step_sstore m ρ K (.inl (0, 1, 2)) rfl rfl ?_
  refine step_ret ?_
  try dsimp only
  refine step_bind ?_; rw [k0_part13_eq_skeleton]; unfold k0_part13_skel
  simp only [semSignalWord, semWaitWord, Prog.lift, Prog.bind_op, Prog.bind_ret, Prog.pure_eq_ret]
  refine step_send m ρ K (.inl (0, 1, 2)) (by decide) ((by decide +kernel : ∀ c : Dev nD, (⟨k0_dev16 c, k0_dev16_lt c⟩ : Dev nD) = tgt (.inl (0, 1, 2)) c) c) rfl rfl ?_
  refine step_chunk m ρ K 0 1 3 ((by decide +kernel : ∀ c, k0_off4 c 1#32 = pOff 0 1 3 c) c) ?_
  refine step_recv m ρ K (.inl (0, 0, 3)) rfl (by decide) rfl ?_
  refine step_rload m ρ K (.inl (0, 0, 3)) (by decide) ?_
  refine step_sload m ρ K (.inl (0, 1, 3)) rfl fun _ => ?_
  refine step_sstore m ρ K (.inl (0, 1, 3)) rfl rfl ?_
  refine step_ret ?_
  try dsimp only
  refine step_bind ?_; rw [k0_part14_eq_skeleton]; unfold k0_part14_skel
  simp only [semSignalWord, semWaitWord, Prog.lift, Prog.bind_op, Prog.bind_ret, Prog.pure_eq_ret]
  refine step_send m ρ K (.inl (0, 1, 3)) (by decide) ((by decide +kernel : ∀ c : Dev nD, (⟨k0_dev17 c, k0_dev17_lt c⟩ : Dev nD) = tgt (.inl (0, 1, 3)) c) c) rfl rfl ?_
  refine step_chunk m ρ K 1 1 0 ((by decide +kernel : ∀ c, k0_off5 c 1#32 = pOff 1 1 0 c) c) ?_
  refine step_recv m ρ K (.inl (1, 0, 0)) rfl (by decide) rfl ?_
  refine step_rload m ρ K (.inl (1, 0, 0)) (by decide) ?_
  refine step_ret ?_
  try dsimp only
  refine step_bind ?_; rw [k0_part15_eq_skeleton]; unfold k0_part15_skel
  simp only [semSignalWord, semWaitWord, Prog.lift, Prog.bind_op, Prog.bind_ret, Prog.pure_eq_ret]
  refine step_sload m ρ K (.inl (1, 1, 0)) rfl fun _ => ?_
  refine step_sstore m ρ K (.inl (1, 1, 0)) rfl rfl ?_
  refine step_send m ρ K (.inl (1, 1, 0)) (by decide) ((by decide +kernel : ∀ c : Dev nD, (⟨k0_dev18 c, k0_dev18_lt c⟩ : Dev nD) = tgt (.inl (1, 1, 0)) c) c) rfl rfl ?_
  refine step_chunk m ρ K 1 1 1 ((by decide +kernel : ∀ c, k0_off6 c 1#32 = pOff 1 1 1 c) c) ?_
  refine step_recv m ρ K (.inl (1, 0, 1)) rfl (by decide) rfl ?_
  refine step_ret ?_
  try dsimp only
  refine step_bind ?_; rw [k0_part16_eq_skeleton]; unfold k0_part16_skel
  simp only [semSignalWord, semWaitWord, Prog.lift, Prog.bind_op, Prog.bind_ret, Prog.pure_eq_ret]
  refine step_rload m ρ K (.inl (1, 0, 1)) (by decide) ?_
  refine step_sload m ρ K (.inl (1, 1, 1)) rfl fun _ => ?_
  refine step_sstore m ρ K (.inl (1, 1, 1)) rfl rfl ?_
  refine step_send m ρ K (.inl (1, 1, 1)) (by decide) ((by decide +kernel : ∀ c : Dev nD, (⟨k0_dev19 c, k0_dev19_lt c⟩ : Dev nD) = tgt (.inl (1, 1, 1)) c) c) rfl rfl ?_
  refine step_chunk m ρ K 1 1 2 ((by decide +kernel : ∀ c, k0_off7 c 1#32 = pOff 1 1 2 c) c) ?_
  refine step_ret ?_
  try dsimp only
  refine step_bind ?_; rw [k0_part17_eq_skeleton]; unfold k0_part17_skel
  simp only [semSignalWord, semWaitWord, Prog.lift, Prog.bind_op, Prog.bind_ret, Prog.pure_eq_ret]
  refine step_recv m ρ K (.inl (1, 0, 2)) rfl (by decide) rfl ?_
  refine step_rload m ρ K (.inl (1, 0, 2)) (by decide) ?_
  refine step_sload m ρ K (.inl (1, 1, 2)) rfl fun _ => ?_
  refine step_sstore m ρ K (.inl (1, 1, 2)) rfl rfl ?_
  refine step_send m ρ K (.inl (1, 1, 2)) (by decide) ((by decide +kernel : ∀ c : Dev nD, (⟨k0_dev20 c, k0_dev20_lt c⟩ : Dev nD) = tgt (.inl (1, 1, 2)) c) c) rfl rfl ?_
  refine step_chunk m ρ K 1 1 3 ((by decide +kernel : ∀ c, k0_off8 c 1#32 = pOff 1 1 3 c) c) ?_
  refine step_ret ?_
  try dsimp only
  refine step_bind ?_; rw [k0_part18_eq_skeleton]; unfold k0_part18_skel
  simp only [semSignalWord, semWaitWord, Prog.lift, Prog.bind_op, Prog.bind_ret, Prog.pure_eq_ret]
  refine step_recv m ρ K (.inl (1, 0, 3)) rfl (by decide) rfl ?_
  refine step_rload m ρ K (.inl (1, 0, 3)) (by decide) ?_
  refine step_sload m ρ K (.inl (1, 1, 3)) rfl fun _ => ?_
  refine step_sstore m ρ K (.inl (1, 1, 3)) rfl rfl ?_
  refine step_send m ρ K (.inl (1, 1, 3)) (by decide) ((by decide +kernel : ∀ c : Dev nD, (⟨k0_dev21 c, k0_dev21_lt c⟩ : Dev nD) = tgt (.inl (1, 1, 3)) c) c) rfl rfl ?_
  refine step_ret ?_
  try dsimp only
  refine step_bind ?_; rw [k0_part19_eq_skeleton]; unfold k0_part19_skel
  simp only [semSignalWord, semWaitWord, Prog.lift, Prog.bind_op, Prog.bind_ret, Prog.pure_eq_ret]
  refine step_chunk m ρ K 0 2 0 ((by decide +kernel : ∀ c, k0_off1 c 2#32 = pOff 0 2 0 c) c) ?_
  refine step_recv m ρ K (.inl (0, 1, 0)) rfl (by decide) rfl ?_
  refine step_rload m ρ K (.inl (0, 1, 0)) (by decide) ?_
  refine step_sload m ρ K (.inl (0, 2, 0)) rfl fun _ => ?_
  refine step_sstore m ρ K (.inl (0, 2, 0)) rfl rfl ?_
  refine step_ret ?_
  try dsimp only
  refine step_bind ?_; rw [k0_part20_eq_skeleton]; unfold k0_part20_skel
  simp only [semSignalWord, semWaitWord, Prog.lift, Prog.bind_op, Prog.bind_ret, Prog.pure_eq_ret]
  refine step_send m ρ K (.inl (0, 2, 0)) (by decide) ((by decide +kernel : ∀ c : Dev nD, (⟨k0_dev22 c, k0_dev22_lt c⟩ : Dev nD) = tgt (.inl (0, 2, 0)) c) c) rfl rfl ?_
  refine step_chunk m ρ K 0 2 1 ((by decide +kernel : ∀ c, k0_off2 c 2#32 = pOff 0 2 1 c) c) ?_
  refine step_recv m ρ K (.inl (0, 1, 1)) rfl (by decide) rfl ?_
  refine step_rload m ρ K (.inl (0, 1, 1)) (by decide) ?_
  refine step_ret ?_
  try dsimp only
  refine step_bind ?_; rw [k0_part21_eq_skeleton]; unfold k0_part21_skel
  simp only [semSignalWord, semWaitWord, Prog.lift, Prog.bind_op, Prog.bind_ret, Prog.pure_eq_ret]
  refine step_sload m ρ K (.inl (0, 2, 1)) rfl fun _ => ?_
  refine step_sstore m ρ K (.inl (0, 2, 1)) rfl rfl ?_
  refine step_send m ρ K (.inl (0, 2, 1)) (by decide) ((by decide +kernel : ∀ c : Dev nD, (⟨k0_dev23 c, k0_dev23_lt c⟩ : Dev nD) = tgt (.inl (0, 2, 1)) c) c) rfl rfl ?_
  refine step_chunk m ρ K 0 2 2 ((by decide +kernel : ∀ c, k0_off3 c 2#32 = pOff 0 2 2 c) c) ?_
  refine step_ret ?_
  try dsimp only
  refine step_bind ?_; rw [k0_part22_eq_skeleton]; unfold k0_part22_skel
  simp only [semSignalWord, semWaitWord, Prog.lift, Prog.bind_op, Prog.bind_ret, Prog.pure_eq_ret]
  refine step_recv m ρ K (.inl (0, 1, 2)) rfl (by decide) rfl ?_
  refine step_rload m ρ K (.inl (0, 1, 2)) (by decide) ?_
  refine step_sload m ρ K (.inl (0, 2, 2)) rfl fun _ => ?_
  refine step_sstore m ρ K (.inl (0, 2, 2)) rfl rfl ?_
  refine step_send m ρ K (.inl (0, 2, 2)) (by decide) ((by decide +kernel : ∀ c : Dev nD, (⟨k0_dev24 c, k0_dev24_lt c⟩ : Dev nD) = tgt (.inl (0, 2, 2)) c) c) rfl rfl ?_
  refine step_chunk m ρ K 0 2 3 ((by decide +kernel : ∀ c, k0_off4 c 2#32 = pOff 0 2 3 c) c) ?_
  refine step_ret ?_
  try dsimp only
  refine step_bind ?_; rw [k0_part23_eq_skeleton]; unfold k0_part23_skel
  simp only [semSignalWord, semWaitWord, Prog.lift, Prog.bind_op, Prog.bind_ret, Prog.pure_eq_ret]
  refine step_recv m ρ K (.inl (0, 1, 3)) rfl (by decide) rfl ?_
  refine step_rload m ρ K (.inl (0, 1, 3)) (by decide) ?_
  refine step_sload m ρ K (.inl (0, 2, 3)) rfl fun _ => ?_
  refine step_sstore m ρ K (.inl (0, 2, 3)) rfl rfl ?_
  refine step_send m ρ K (.inl (0, 2, 3)) (by decide) ((by decide +kernel : ∀ c : Dev nD, (⟨k0_dev25 c, k0_dev25_lt c⟩ : Dev nD) = tgt (.inl (0, 2, 3)) c) c) rfl rfl ?_
  refine step_chunk m ρ K 1 2 0 ((by decide +kernel : ∀ c, k0_off5 c 2#32 = pOff 1 2 0 c) c) ?_
  refine step_ret ?_
  try dsimp only
  refine step_bind ?_; rw [k0_part24_eq_skeleton]; unfold k0_part24_skel
  simp only [semSignalWord, semWaitWord, Prog.lift, Prog.bind_op, Prog.bind_ret, Prog.pure_eq_ret]
  refine step_recv m ρ K (.inl (1, 1, 0)) rfl (by decide) rfl ?_
  refine step_rload m ρ K (.inl (1, 1, 0)) (by decide) ?_
  refine step_sload m ρ K (.inl (1, 2, 0)) rfl fun _ => ?_
  refine step_sstore m ρ K (.inl (1, 2, 0)) rfl rfl ?_
  refine step_ret ?_
  try dsimp only
  refine step_bind ?_; rw [k0_part25_eq_skeleton]; unfold k0_part25_skel
  simp only [semSignalWord, semWaitWord, Prog.lift, Prog.bind_op, Prog.bind_ret, Prog.pure_eq_ret]
  refine step_send m ρ K (.inl (1, 2, 0)) (by decide) ((by decide +kernel : ∀ c : Dev nD, (⟨k0_dev26 c, k0_dev26_lt c⟩ : Dev nD) = tgt (.inl (1, 2, 0)) c) c) rfl rfl ?_
  refine step_chunk m ρ K 1 2 1 ((by decide +kernel : ∀ c, k0_off6 c 2#32 = pOff 1 2 1 c) c) ?_
  refine step_recv m ρ K (.inl (1, 1, 1)) rfl (by decide) rfl ?_
  refine step_rload m ρ K (.inl (1, 1, 1)) (by decide) ?_
  refine step_sload m ρ K (.inl (1, 2, 1)) rfl fun _ => ?_
  refine step_sstore m ρ K (.inl (1, 2, 1)) rfl rfl ?_
  refine step_ret ?_
  try dsimp only
  refine step_bind ?_; rw [k0_part26_eq_skeleton]; unfold k0_part26_skel
  simp only [semSignalWord, semWaitWord, Prog.lift, Prog.bind_op, Prog.bind_ret, Prog.pure_eq_ret]
  refine step_send m ρ K (.inl (1, 2, 1)) (by decide) ((by decide +kernel : ∀ c : Dev nD, (⟨k0_dev27 c, k0_dev27_lt c⟩ : Dev nD) = tgt (.inl (1, 2, 1)) c) c) rfl rfl ?_
  refine step_chunk m ρ K 1 2 2 ((by decide +kernel : ∀ c, k0_off7 c 2#32 = pOff 1 2 2 c) c) ?_
  refine step_recv m ρ K (.inl (1, 1, 2)) rfl (by decide) rfl ?_
  refine step_rload m ρ K (.inl (1, 1, 2)) (by decide) ?_
  refine step_sload m ρ K (.inl (1, 2, 2)) rfl fun _ => ?_
  refine step_sstore m ρ K (.inl (1, 2, 2)) rfl rfl ?_
  refine step_ret ?_
  try dsimp only
  refine step_bind ?_; rw [k0_part27_eq_skeleton]; unfold k0_part27_skel
  simp only [semSignalWord, semWaitWord, Prog.lift, Prog.bind_op, Prog.bind_ret, Prog.pure_eq_ret]
  refine step_send m ρ K (.inl (1, 2, 2)) (by decide) ((by decide +kernel : ∀ c : Dev nD, (⟨k0_dev28 c, k0_dev28_lt c⟩ : Dev nD) = tgt (.inl (1, 2, 2)) c) c) rfl rfl ?_
  refine step_chunk m ρ K 1 2 3 ((by decide +kernel : ∀ c, k0_off8 c 2#32 = pOff 1 2 3 c) c) ?_
  refine step_recv m ρ K (.inl (1, 1, 3)) rfl (by decide) rfl ?_
  refine step_rload m ρ K (.inl (1, 1, 3)) (by decide) ?_
  refine step_ret ?_
  try dsimp only
  refine step_bind ?_; rw [k0_part28_eq_skeleton]; unfold k0_part28_skel
  simp only [semSignalWord, semWaitWord, Prog.lift, Prog.bind_op, Prog.bind_ret, Prog.pure_eq_ret]
  refine step_sload m ρ K (.inl (1, 2, 3)) rfl fun _ => ?_
  refine step_sstore m ρ K (.inl (1, 2, 3)) rfl rfl ?_
  refine step_send m ρ K (.inl (1, 2, 3)) (by decide) ((by decide +kernel : ∀ c : Dev nD, (⟨k0_dev29 c, k0_dev29_lt c⟩ : Dev nD) = tgt (.inl (1, 2, 3)) c) c) rfl rfl ?_
  refine step_recv m ρ K (.inl (0, 2, 0)) rfl (by decide) rfl ?_
  refine step_ret ?_
  try dsimp only
  refine step_bind ?_; rw [k0_part29_eq_skeleton]; unfold k0_part29_skel
  simp only [semSignalWord, semWaitWord, Prog.lift, Prog.bind_op, Prog.bind_ret, Prog.pure_eq_ret]
  refine step_recv m ρ K (.inl (0, 2, 1)) rfl (by decide) rfl ?_
  refine step_recv m ρ K (.inl (0, 2, 2)) rfl (by decide) rfl ?_
  refine step_ret ?_
  try dsimp only
  refine step_bind ?_; rw [k0_part30_eq_skeleton]; unfold k0_part30_skel
  simp only [semSignalWord, semWaitWord, Prog.lift, Prog.bind_op, Prog.bind_ret, Prog.pure_eq_ret]
  refine step_recv m ρ K (.inl (0, 2, 3)) rfl (by decide) rfl ?_
  refine step_recv m ρ K (.inl (1, 2, 0)) rfl (by decide) rfl ?_
  refine step_recv m ρ K (.inl (1, 2, 1)) rfl (by decide) rfl ?_
  refine step_ret ?_
  try dsimp only
  refine step_bind ?_; rw [k0_part31_eq_skeleton]; unfold k0_part31_skel
  simp only [semSignalWord, semWaitWord, Prog.lift, Prog.bind_op, Prog.bind_ret, Prog.pure_eq_ret]
  refine step_recv m ρ K (.inl (1, 2, 2)) rfl (by decide) rfl ?_
  refine step_recv m ρ K (.inl (1, 2, 3)) rfl (by decide) rfl ?_
  refine step_pblk m ρ K (toPlane 0 c) 0 0 ((by decide +kernel : ∀ c, k0_off9 c 1#32 = ![256 * (c.val % 4) + 64 * (toPlane 0 c).val, 0]) c) ?_
  refine step_rblk m ρ K (toPlane 0 c) 0 0 (by decide) ((by decide +kernel : ∀ c, k0_off10 c 1#32 = ![2, 0, 64 * (toPlane 0 c).val, 0]) c) ?_
  refine step_ret ?_
  try dsimp only
  refine step_bind ?_; rw [k0_part32_eq_skeleton]; unfold k0_part32_skel
  simp only [semSignalWord, semWaitWord, Prog.lift, Prog.bind_op, Prog.bind_ret, Prog.pure_eq_ret]
  refine step_pblk m ρ K (toPlane 0 c) 0 1 ((by decide +kernel : ∀ c, k0_off11 c 1#32 = ![256 * (c.val % 4) + 64 * (toPlane 0 c).val, 128]) c) ?_
  refine step_rblk m ρ K (toPlane 0 c) 0 1 (by decide) ((by decide +kernel : ∀ c, k0_off12 c 1#32 = ![2, 1, 64 * (toPlane 0 c).val, 0]) c) ?_
  refine step_pblk m ρ K (toPlane 0 c) 0 2 ((by decide +kernel : ∀ c, k0_off13 c 1#32 = ![256 * (c.val % 4) + 64 * (toPlane 0 c).val, 256]) c) ?_
  refine step_rblk m ρ K (toPlane 0 c) 0 2 (by decide) ((by decide +kernel : ∀ c, k0_off14 c 1#32 = ![2, 2, 64 * (toPlane 0 c).val, 0]) c) ?_
  refine step_pblk m ρ K (toPlane 0 c) 0 3 ((by decide +kernel : ∀ c, k0_off15 c 1#32 = ![256 * (c.val % 4) + 64 * (toPlane 0 c).val, 384]) c) ?_
  refine step_rblk m ρ K (toPlane 0 c) 0 3 (by decide) ((by decide +kernel : ∀ c, k0_off16 c 1#32 = ![2, 3, 64 * (toPlane 0 c).val, 0]) c) ?_
  refine step_ret ?_
  try dsimp only
  refine step_bind ?_; rw [k0_part33_eq_skeleton]; unfold k0_part33_skel
  simp only [semSignalWord, semWaitWord, Prog.lift, Prog.bind_op, Prog.bind_ret, Prog.pure_eq_ret]
  refine step_pblk m ρ K (toPlane 0 c) 1 0 ((by decide +kernel : ∀ c, k0_off17 c 1#32 = ![256 * (c.val % 4) + 64 * (toPlane 0 c).val, 512]) c) ?_
  refine step_rblk m ρ K (toPlane 0 c) 1 0 (by decide) ((by decide +kernel : ∀ c, k0_off10 c 1#32 = ![2, 0, 64 * (toPlane 0 c).val, 0]) c) ?_
  refine step_pblk m ρ K (toPlane 0 c) 1 1 ((by decide +kernel : ∀ c, k0_off18 c 1#32 = ![256 * (c.val % 4) + 64 * (toPlane 0 c).val, 640]) c) ?_
  refine step_rblk m ρ K (toPlane 0 c) 1 1 (by decide) ((by decide +kernel : ∀ c, k0_off12 c 1#32 = ![2, 1, 64 * (toPlane 0 c).val, 0]) c) ?_
  refine step_pblk m ρ K (toPlane 0 c) 1 2 ((by decide +kernel : ∀ c, k0_off19 c 1#32 = ![256 * (c.val % 4) + 64 * (toPlane 0 c).val, 768]) c) ?_
  refine step_rblk m ρ K (toPlane 0 c) 1 2 (by decide) ((by decide +kernel : ∀ c, k0_off14 c 1#32 = ![2, 2, 64 * (toPlane 0 c).val, 0]) c) ?_
  refine step_pblk m ρ K (toPlane 0 c) 1 3 ((by decide +kernel : ∀ c, k0_off20 c 1#32 = ![256 * (c.val % 4) + 64 * (toPlane 0 c).val, 896]) c) ?_
  refine step_ret ?_
  try dsimp only
  refine step_bind ?_; rw [k0_part34_eq_skeleton]; unfold k0_part34_skel
  simp only [semSignalWord, semWaitWord, Prog.lift, Prog.bind_op, Prog.bind_ret, Prog.pure_eq_ret]
  refine step_rblk m ρ K (toPlane 0 c) 1 3 (by decide) ((by decide +kernel : ∀ c, k0_off16 c 1#32 = ![2, 3, 64 * (toPlane 0 c).val, 0]) c) ?_
  refine step_sload m ρ K (.inr 0) rfl fun _ => ?_
  refine step_sstore m ρ K (.inr 0) rfl rfl ?_
  refine step_send m ρ K (.inr 0) (by decide) ((by decide +kernel : ∀ c : Dev nD, (⟨k0_dev30 c, k0_dev30_lt c⟩ : Dev nD) = tgt (.inr 0) c) c) rfl rfl ?_
  refine step_pblk m ρ K (toPlane 1 c) 0 0 ((by decide +kernel : ∀ c, k0_off9 c 2#32 = ![256 * (c.val % 4) + 64 * (toPlane 1 c).val, 0]) c) ?_
  refine step_ret ?_
  try dsimp only
  refine step_bind ?_; rw [k0_part35_eq_skeleton]; unfold k0_part35_skel
  simp only [semSignalWord, semWaitWord, Prog.lift, Prog.bind_op, Prog.bind_ret, Prog.pure_eq_ret]
  refine step_rblk m ρ K (toPlane 1 c) 0 0 (by decide) ((by decide +kernel : ∀ c, k0_off10 c 2#32 = ![2, 0, 64 * (toPlane 1 c).val, 0]) c) ?_
  refine step_pblk m ρ K (toPlane 1 c) 0 1 ((by decide +kernel : ∀ c, k0_off11 c 2#32 = ![256 * (c.val % 4) + 64 * (toPlane 1 c).val, 128]) c) ?_
  refine step_rblk m ρ K (toPlane 1 c) 0 1 (by decide) ((by decide +kernel : ∀ c, k0_off12 c 2#32 = ![2, 1, 64 * (toPlane 1 c).val, 0]) c) ?_
  refine step_pblk m ρ K (toPlane 1 c) 0 2 ((by decide +kernel : ∀ c, k0_off13 c 2#32 = ![256 * (c.val % 4) + 64 * (toPlane 1 c).val, 256]) c) ?_
  refine step_rblk m ρ K (toPlane 1 c) 0 2 (by decide) ((by decide +kernel : ∀ c, k0_off14 c 2#32 = ![2, 2, 64 * (toPlane 1 c).val, 0]) c) ?_
  refine step_pblk m ρ K (toPlane 1 c) 0 3 ((by decide +kernel : ∀ c, k0_off15 c 2#32 = ![256 * (c.val % 4) + 64 * (toPlane 1 c).val, 384]) c) ?_
  refine step_rblk m ρ K (toPlane 1 c) 0 3 (by decide) ((by decide +kernel : ∀ c, k0_off16 c 2#32 = ![2, 3, 64 * (toPlane 1 c).val, 0]) c) ?_
  refine step_ret ?_
  try dsimp only
  refine step_bind ?_; rw [k0_part36_eq_skeleton]; unfold k0_part36_skel
  simp only [semSignalWord, semWaitWord, Prog.lift, Prog.bind_op, Prog.bind_ret, Prog.pure_eq_ret]
  refine step_pblk m ρ K (toPlane 1 c) 1 0 ((by decide +kernel : ∀ c, k0_off17 c 2#32 = ![256 * (c.val % 4) + 64 * (toPlane 1 c).val, 512]) c) ?_
  refine step_rblk m ρ K (toPlane 1 c) 1 0 (by decide) ((by decide +kernel : ∀ c, k0_off10 c 2#32 = ![2, 0, 64 * (toPlane 1 c).val, 0]) c) ?_
  refine step_pblk m ρ K (toPlane 1 c) 1 1 ((by decide +kernel : ∀ c, k0_off18 c 2#32 = ![256 * (c.val % 4) + 64 * (toPlane 1 c).val, 640]) c) ?_
  refine step_rblk m ρ K (toPlane 1 c) 1 1 (by decide) ((by decide +kernel : ∀ c, k0_off12 c 2#32 = ![2, 1, 64 * (toPlane 1 c).val, 0]) c) ?_
  refine step_pblk m ρ K (toPlane 1 c) 1 2 ((by decide +kernel : ∀ c, k0_off19 c 2#32 = ![256 * (c.val % 4) + 64 * (toPlane 1 c).val, 768]) c) ?_
  refine step_rblk m ρ K (toPlane 1 c) 1 2 (by decide) ((by decide +kernel : ∀ c, k0_off14 c 2#32 = ![2, 2, 64 * (toPlane 1 c).val, 0]) c) ?_
  refine step_ret ?_
  try dsimp only
  refine step_bind ?_; rw [k0_part37_eq_skeleton]; unfold k0_part37_skel
  simp only [semSignalWord, semWaitWord, Prog.lift, Prog.bind_op, Prog.bind_ret, Prog.pure_eq_ret]
  refine step_pblk m ρ K (toPlane 1 c) 1 3 ((by decide +kernel : ∀ c, k0_off20 c 2#32 = ![256 * (c.val % 4) + 64 * (toPlane 1 c).val, 896]) c) ?_
  refine step_rblk m ρ K (toPlane 1 c) 1 3 (by decide) ((by decide +kernel : ∀ c, k0_off16 c 2#32 = ![2, 3, 64 * (toPlane 1 c).val, 0]) c) ?_
  refine step_sload m ρ K (.inr 1) rfl fun _ => ?_
  refine step_sstore m ρ K (.inr 1) rfl rfl ?_
  refine step_send m ρ K (.inr 1) (by decide) ((by decide +kernel : ∀ c : Dev nD, (⟨k0_dev31 c, k0_dev31_lt c⟩ : Dev nD) = tgt (.inr 1) c) c) rfl rfl ?_
  refine step_pblk m ρ K (toPlane 2 c) 0 0 ((by decide +kernel : ∀ c, k0_off9 c 3#32 = ![256 * (c.val % 4) + 64 * (toPlane 2 c).val, 0]) c) ?_
  refine step_ret ?_
  try dsimp only
  refine step_bind ?_; rw [k0_part38_eq_skeleton]; unfold k0_part38_skel
  simp only [semSignalWord, semWaitWord, Prog.lift, Prog.bind_op, Prog.bind_ret, Prog.pure_eq_ret]
  refine step_rblk m ρ K (toPlane 2 c) 0 0 (by decide) ((by decide +kernel : ∀ c, k0_off10 c 3#32 = ![2, 0, 64 * (toPlane 2 c).val, 0]) c) ?_
  refine step_pblk m ρ K (toPlane 2 c) 0 1 ((by decide +kernel : ∀ c, k0_off11 c 3#32 = ![256 * (c.val % 4) + 64 * (toPlane 2 c).val, 128]) c) ?_
  refine step_rblk m ρ K (toPlane 2 c) 0 1 (by decide) ((by decide +kernel : ∀ c, k0_off12 c 3#32 = ![2, 1, 64 * (toPlane 2 c).val, 0]) c) ?_
  refine step_pblk m ρ K (toPlane 2 c) 0 2 ((by decide +kernel : ∀ c, k0_off13 c 3#32 = ![256 * (c.val % 4) + 64 * (toPlane 2 c).val, 256]) c) ?_
  refine step_rblk m ρ K (toPlane 2 c) 0 2 (by decide) ((by decide +kernel : ∀ c, k0_off14 c 3#32 = ![2, 2, 64 * (toPlane 2 c).val, 0]) c) ?_
  refine step_pblk m ρ K (toPlane 2 c) 0 3 ((by decide +kernel : ∀ c, k0_off15 c 3#32 = ![256 * (c.val % 4) + 64 * (toPlane 2 c).val, 384]) c) ?_
  refine step_rblk m ρ K (toPlane 2 c) 0 3 (by decide) ((by decide +kernel : ∀ c, k0_off16 c 3#32 = ![2, 3, 64 * (toPlane 2 c).val, 0]) c) ?_
  refine step_ret ?_
  try dsimp only
  refine step_bind ?_; rw [k0_part39_eq_skeleton]; unfold k0_part39_skel
  simp only [semSignalWord, semWaitWord, Prog.lift, Prog.bind_op, Prog.bind_ret, Prog.pure_eq_ret]
  refine step_pblk m ρ K (toPlane 2 c) 1 0 ((by decide +kernel : ∀ c, k0_off17 c 3#32 = ![256 * (c.val % 4) + 64 * (toPlane 2 c).val, 512]) c) ?_
  refine step_rblk m ρ K (toPlane 2 c) 1 0 (by decide) ((by decide +kernel : ∀ c, k0_off10 c 3#32 = ![2, 0, 64 * (toPlane 2 c).val, 0]) c) ?_
  refine step_pblk m ρ K (toPlane 2 c) 1 1 ((by decide +kernel : ∀ c, k0_off18 c 3#32 = ![256 * (c.val % 4) + 64 * (toPlane 2 c).val, 640]) c) ?_
  refine step_rblk m ρ K (toPlane 2 c) 1 1 (by decide) ((by decide +kernel : ∀ c, k0_off12 c 3#32 = ![2, 1, 64 * (toPlane 2 c).val, 0]) c) ?_
  refine step_pblk m ρ K (toPlane 2 c) 1 2 ((by decide +kernel : ∀ c, k0_off19 c 3#32 = ![256 * (c.val % 4) + 64 * (toPlane 2 c).val, 768]) c) ?_
  refine step_rblk m ρ K (toPlane 2 c) 1 2 (by decide) ((by decide +kernel : ∀ c, k0_off14 c 3#32 = ![2, 2, 64 * (toPlane 2 c).val, 0]) c) ?_
  refine step_ret ?_
  try dsimp only
  refine step_bind ?_; rw [k0_part40_eq_skeleton]; unfold k0_part40_skel
  simp only [semSignalWord, semWaitWord, Prog.lift, Prog.bind_op, Prog.bind_ret, Prog.pure_eq_ret]
  refine step_pblk m ρ K (toPlane 2 c) 1 3 ((by decide +kernel : ∀ c, k0_off20 c 3#32 = ![256 * (c.val % 4) + 64 * (toPlane 2 c).val, 896]) c) ?_
  refine step_rblk m ρ K (toPlane 2 c) 1 3 (by decide) ((by decide +kernel : ∀ c, k0_off16 c 3#32 = ![2, 3, 64 * (toPlane 2 c).val, 0]) c) ?_
  refine step_sload m ρ K (.inr 2) rfl fun _ => ?_
  refine step_sstore m ρ K (.inr 2) rfl rfl ?_
  refine step_send m ρ K (.inr 2) (by decide) ((by decide +kernel : ∀ c : Dev nD, (⟨k0_dev32 c, k0_dev32_lt c⟩ : Dev nD) = tgt (.inr 2) c) c) rfl rfl ?_
  refine step_pblk m ρ K (ownPlane c) 0 0 ((by decide +kernel : ∀ c, k0_off21 c = ![256 * (c.val % 4) + 64 * (ownPlane c).val, 0]) c) ?_
  refine step_ret ?_
  try dsimp only
  refine step_bind ?_; rw [k0_part41_eq_skeleton]; unfold k0_part41_skel
  simp only [semSignalWord, semWaitWord, Prog.lift, Prog.bind_op, Prog.bind_ret, Prog.pure_eq_ret]
  refine step_rblk m ρ K (ownPlane c) 0 0 (by decide) ((by decide +kernel : ∀ c, k0_off22 c = ![2, 0, 64 * (ownPlane c).val, 0]) c) ?_
  refine step_pblk m ρ K (ownPlane c) 0 1 ((by decide +kernel : ∀ c, k0_off23 c = ![256 * (c.val % 4) + 64 * (ownPlane c).val, 128]) c) ?_
  refine step_rblk m ρ K (ownPlane c) 0 1 (by decide) ((by decide +kernel : ∀ c, k0_off24 c = ![2, 1, 64 * (ownPlane c).val, 0]) c) ?_
  refine step_pblk m ρ K (ownPlane c) 0 2 ((by decide +kernel : ∀ c, k0_off25 c = ![256 * (c.val % 4) + 64 * (ownPlane c).val, 256]) c) ?_
  refine step_rblk m ρ K (ownPlane c) 0 2 (by decide) ((by decide +kernel : ∀ c, k0_off26 c = ![2, 2, 64 * (ownPlane c).val, 0]) c) ?_
  refine step_pblk m ρ K (ownPlane c) 0 3 ((by decide +kernel : ∀ c, k0_off27 c = ![256 * (c.val % 4) + 64 * (ownPlane c).val, 384]) c) ?_
  refine step_rblk m ρ K (ownPlane c) 0 3 (by decide) ((by decide +kernel : ∀ c, k0_off28 c = ![2, 3, 64 * (ownPlane c).val, 0]) c) ?_
  refine step_ret ?_
  try dsimp only
  refine step_bind ?_; rw [k0_part42_eq_skeleton]; unfold k0_part42_skel
  simp only [semSignalWord, semWaitWord, Prog.lift, Prog.bind_op, Prog.bind_ret, Prog.pure_eq_ret]
  refine step_pblk m ρ K (ownPlane c) 1 0 ((by decide +kernel : ∀ c, k0_off29 c = ![256 * (c.val % 4) + 64 * (ownPlane c).val, 512]) c) ?_
  refine step_rblk m ρ K (ownPlane c) 1 0 (by decide) ((by decide +kernel : ∀ c, k0_off22 c = ![2, 0, 64 * (ownPlane c).val, 0]) c) ?_
  refine step_pblk m ρ K (ownPlane c) 1 1 ((by decide +kernel : ∀ c, k0_off30 c = ![256 * (c.val % 4) + 64 * (ownPlane c).val, 640]) c) ?_
  refine step_rblk m ρ K (ownPlane c) 1 1 (by decide) ((by decide +kernel : ∀ c, k0_off24 c = ![2, 1, 64 * (ownPlane c).val, 0]) c) ?_
  refine step_pblk m ρ K (ownPlane c) 1 2 ((by decide +kernel : ∀ c, k0_off31 c = ![256 * (c.val % 4) + 64 * (ownPlane c).val, 768]) c) ?_
  refine step_rblk m ρ K (ownPlane c) 1 2 (by decide) ((by decide +kernel : ∀ c, k0_off26 c = ![2, 2, 64 * (ownPlane c).val, 0]) c) ?_
  refine step_ret ?_
  try dsimp only
  refine step_bind ?_; rw [k0_part43_eq_skeleton]; unfold k0_part43_skel
  simp only [semSignalWord, semWaitWord, Prog.lift, Prog.bind_op, Prog.bind_ret, Prog.pure_eq_ret]
  refine step_pblk m ρ K (ownPlane c) 1 3 ((by decide +kernel : ∀ c, k0_off32 c = ![256 * (c.val % 4) + 64 * (ownPlane c).val, 896]) c) ?_
  refine step_rblk m ρ K (ownPlane c) 1 3 (by decide) ((by decide +kernel : ∀ c, k0_off28 c = ![2, 3, 64 * (ownPlane c).val, 0]) c) ?_
  refine step_recv m ρ K (.inr 0) rfl (by decide) rfl ?_
  refine step_recv m ρ K (.inr 1) rfl (by decide) rfl ?_
  refine step_ret ?_
  try dsimp only
  refine step_bind ?_; rw [k0_part44_eq_skeleton]; unfold k0_part44_skel
  simp only [semSignalWord, semWaitWord, Prog.lift, Prog.bind_op, Prog.bind_ret, Prog.pure_eq_ret]
  refine step_recv m ρ K (.inr 2) rfl (by decide) rfl ?_
  refine step_rload m ρ K (.inr 0) (by decide) ?_
  refine step_rload m ρ K (.inr 1) (by decide) ?_
  refine step_rload m ρ K (.inr 2) (by decide) ?_
  refine step_oload m ρ K fun _ => ?_
  refine step_ostore m ρ K ?_
  refine step_sdone m ρ K (.inl (0, 0, 0)) rfl rfl ?_
  refine step_ret ?_
  try dsimp only
  refine step_bind ?_; rw [k0_part45_eq_skeleton]; unfold k0_part45_skel
  simp only [semSignalWord, semWaitWord, Prog.lift, Prog.bind_op, Prog.bind_ret, Prog.pure_eq_ret]
  refine step_sdone m ρ K (.inl (0, 0, 1)) rfl rfl ?_
  refine step_sdone m ρ K (.inl (0, 0, 2)) rfl rfl ?_
  refine step_sdone m ρ K (.inl (0, 0, 3)) rfl rfl ?_
  refine step_ret ?_
  try dsimp only
  refine step_bind ?_; rw [k0_part46_eq_skeleton]; unfold k0_part46_skel
  simp only [semSignalWord, semWaitWord, Prog.lift, Prog.bind_op, Prog.bind_ret, Prog.pure_eq_ret]
  refine step_sdone m ρ K (.inl (1, 0, 0)) rfl rfl ?_
  refine step_sdone m ρ K (.inl (1, 0, 1)) rfl rfl ?_
  refine step_sdone m ρ K (.inl (1, 0, 2)) rfl rfl ?_
  refine step_ret ?_
  try dsimp only
  refine step_bind ?_; rw [k0_part47_eq_skeleton]; unfold k0_part47_skel
  simp only [semSignalWord, semWaitWord, Prog.lift, Prog.bind_op, Prog.bind_ret, Prog.pure_eq_ret]
  refine step_sdone m ρ K (.inl (1, 0, 3)) rfl rfl ?_
  refine step_sdone m ρ K (.inl (0, 1, 0)) rfl rfl ?_
  refine step_sdone m ρ K (.inl (0, 1, 1)) rfl rfl ?_
  refine step_ret ?_
  try dsimp only
  refine step_bind ?_; rw [k0_part48_eq_skeleton]; unfold k0_part48_skel
  simp only [semSignalWord, semWaitWord, Prog.lift, Prog.bind_op, Prog.bind_ret, Prog.pure_eq_ret]
  refine step_sdone m ρ K (.inl (0, 1, 2)) rfl rfl ?_
  refine step_sdone m ρ K (.inl (0, 1, 3)) rfl rfl ?_
  refine step_sdone m ρ K (.inl (1, 1, 0)) rfl rfl ?_
  refine step_ret ?_
  try dsimp only
  refine step_bind ?_; rw [k0_part49_eq_skeleton]; unfold k0_part49_skel
  simp only [semSignalWord, semWaitWord, Prog.lift, Prog.bind_op, Prog.bind_ret, Prog.pure_eq_ret]
  refine step_sdone m ρ K (.inl (1, 1, 1)) rfl rfl ?_
  refine step_sdone m ρ K (.inl (1, 1, 2)) rfl rfl ?_
  refine step_sdone m ρ K (.inl (1, 1, 3)) rfl rfl ?_
  refine step_ret ?_
  try dsimp only
  refine step_bind ?_; rw [k0_part50_eq_skeleton]; unfold k0_part50_skel
  simp only [semSignalWord, semWaitWord, Prog.lift, Prog.bind_op, Prog.bind_ret, Prog.pure_eq_ret]
  refine step_sdone m ρ K (.inl (0, 2, 0)) rfl rfl ?_
  refine step_sdone m ρ K (.inl (0, 2, 1)) rfl rfl ?_
  refine step_sdone m ρ K (.inl (0, 2, 2)) rfl rfl ?_
  refine step_ret ?_
  try dsimp only
  refine step_bind ?_; rw [k0_part51_eq_skeleton]; unfold k0_part51_skel
  simp only [semSignalWord, semWaitWord, Prog.lift, Prog.bind_op, Prog.bind_ret, Prog.pure_eq_ret]
  refine step_sdone m ρ K (.inl (0, 2, 3)) rfl rfl ?_
  refine step_sdone m ρ K (.inl (1, 2, 0)) rfl rfl ?_
  refine step_sdone m ρ K (.inl (1, 2, 1)) rfl rfl ?_
  refine step_ret ?_
  try dsimp only
  refine step_bind ?_; rw [k0_part52_eq_skeleton]; unfold k0_part52_skel
  simp only [semSignalWord, semWaitWord, Prog.lift, Prog.bind_op, Prog.bind_ret, Prog.pure_eq_ret]
  refine step_sdone m ρ K (.inl (1, 2, 2)) rfl rfl ?_
  refine step_sdone m ρ K (.inl (1, 2, 3)) rfl rfl ?_
  refine step_sdone m ρ K (.inr 0) rfl rfl ?_
  refine step_ret ?_
  try dsimp only
  refine step_ret ?_
  try dsimp only
  refine step_sdone m ρ K (.inr 1) rfl rfl ?_
  refine step_sdone m ρ K (.inr 2) rfl rfl ?_
  refine step_ret ?_
  exact Entails.of_eq rfl

end Cert.Exchange

end
-- ==== Proof.Slots.lean ====
/-
# The slots of the buffers

The buffers of a direction are cut into a slot per channel. Held whole, at any contents, they are held slot by slot, and
the other way round.
-/
module

public import proofs.«01_k».proof.Proof.Steps
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots cut a buffer up -/

/-- The slots of a ring direction, as sets of elements. -/
abbrev ringSlot (sk : Fin 3 × Fin 4) : Finset S3x4x256x128.Idx :=
  (Rect.unit (s := S3x4x256x128) ![sk.1.val, sk.2.val, 0, 0] S1x1x256x128.size (inb_ring sk.1 sk.2)).set
/-- The slots of the plane copies. -/
abbrev planeSlot (r : Fin 3) : Finset S3x64x1024.Idx :=
  (Rect.unit (s := S3x64x1024) ![r.val, 0, 0] S1x64x1024.size (inb_plane r)).set

theorem mem_ringSlot (sk : Fin 3 × Fin 4) (i : S3x4x256x128.Idx) :
    Iff (i ∈ ringSlot sk) ((i (0 : Fin 4)).val = sk.1.val ∧ (i (1 : Fin 4)).val = sk.2.val) := by
  unfold ringSlot
  rw [Rect.mem_set_unit]
  constructor
  · intro h
    have h0 := h (0 : Fin 4)
    have h1 := h (1 : Fin 4)
    change sk.1.val ≤ (i (0 : Fin 4)).val ∧ (i (0 : Fin 4)).val < sk.1.val + 1 at h0
    change sk.2.val ≤ (i (1 : Fin 4)).val ∧ (i (1 : Fin 4)).val < sk.2.val + 1 at h1
    omega
  · rintro ⟨h0, h1⟩ a
    match a with
    | ⟨0, _⟩ => exact ⟨le_of_eq h0.symm, Nat.lt_succ_of_le (le_of_eq h0)⟩
    | ⟨1, _⟩ => exact ⟨le_of_eq h1.symm, Nat.lt_succ_of_le (le_of_eq h1)⟩
    | ⟨2, _⟩ => exact ⟨Nat.zero_le _, by show _ < 0 + 256; rw [Nat.zero_add]; exact (i (2 : Fin 4)).isLt⟩
    | ⟨3, _⟩ => exact ⟨Nat.zero_le _, by show _ < 0 + 128; rw [Nat.zero_add]; exact (i (3 : Fin 4)).isLt⟩

theorem mem_planeSlot (r : Fin 3) (i : S3x64x1024.Idx) : Iff (i ∈ planeSlot r) ((i (0 : Fin 3)).val = r.val) := by
  unfold planeSlot
  rw [Rect.mem_set_unit]
  constructor
  · intro h
    have h0 := h (0 : Fin 3)
    change r.val ≤ (i (0 : Fin 3)).val ∧ (i (0 : Fin 3)).val < r.val + 1 at h0
    omega
  · intro h0 a
    match a with
    | ⟨0, _⟩ => exact ⟨le_of_eq h0.symm, Nat.lt_succ_of_le (le_of_eq h0)⟩
    | ⟨1, _⟩ => exact ⟨Nat.zero_le _, by show _ < 0 + 64; rw [Nat.zero_add]; exact (i (1 : Fin 3)).isLt⟩
    | ⟨2, _⟩ => exact ⟨Nat.zero_le _, by show _ < 0 + 1024; rw [Nat.zero_add]; exact (i (2 : Fin 3)).isLt⟩

theorem ringSlot_disj (b b' : Fin 3 × Fin 4) (h : b ≠ b') : Disjoint (ringSlot b) (ringSlot b') := by
  rw [Finset.disjoint_left]
  intro i hi hi'
  rw [mem_ringSlot] at hi hi'
  exact h (Prod.ext (Fin.ext (hi.1.symm.trans hi'.1)) (Fin.ext (hi.2.symm.trans hi'.2)))
theorem ringSlot_cover : Finset.univ.biUnion ringSlot = Finset.univ := by
  ext i
  rw [Finset.mem_biUnion]
  exact ⟨fun _ => Finset.mem_univ _, fun _ => ⟨(i (0 : Fin 4), i (1 : Fin 4)), Finset.mem_univ _, (mem_ringSlot _ i).mpr ⟨rfl, rfl⟩⟩⟩
theorem planeSlot_disj (b b' : Fin 3) (h : b ≠ b') : Disjoint (planeSlot b) (planeSlot b') := by
  rw [Finset.disjoint_left]
  intro i hi hi'
  rw [mem_planeSlot] at hi hi'
  exact h (Fin.ext (hi.symm.trans hi'))
theorem planeSlot_cover : Finset.univ.biUnion planeSlot = Finset.univ := by
  ext i
  rw [Finset.mem_biUnion]
  exact ⟨fun _ => Finset.mem_univ _, fun _ => ⟨i (0 : Fin 3), Finset.mem_univ _, (mem_planeSlot _ i).mpr rfl⟩⟩

/-! ## Buffers held whole, and slot by slot -/

/-- A buffer of device `c` held whole, at any contents. -/
abbrev bufAny (c : Dev nD) (b : Ref sig .tc) : sProp 𝕄 := iprop(∃ f : Buf (Elt F) ((c : Thread nD τ).loc b), ((c : Thread nD τ).loc b) ↦{fullShare} f)

theorem any_split {B : Type} [Fintype B] [DecidableEq B] {ℓ : Loc nD τ sig} (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => iprop(∃ f, ℓ ↦[I b]{fullShare} f) := by
  have one (f : Buf (Elt F) ℓ) (b : B) : (ℓ ↦[I b]{fullShare} f : sProp 𝕄) ⊢ iprop(∃ f, ℓ ↦[I b]{fullShare} f) := by
    iintro H; iexists f; iexact H
  iintro ⟨%f, H⟩
  ihave H := (Entails.of_eq (Ring.pointsTo_blocks I hd hc f)) $$ H
  iapply (show (bigSep Finset.univ fun b => ℓ ↦[I b]{fullShare} f : sProp 𝕄) ⊢ bigSep Finset.univ fun b => iprop(∃ f, ℓ ↦[I b]{fullShare} f)
    from bigSep_mono fun b _ => one f b)
  iexact H

/-- The parts of a buffer, each at any contents, are the buffer at any contents. -/
theorem any_blocks {B : Type} [Fintype B] [DecidableEq B] {ℓ : Loc nD τ sig} (I : B → Finset (Idx ℓ))
    (hd : ∀ b b', b ≠ b' → Disjoint (I b) (I b')) (hc : Finset.univ.biUnion I = Finset.univ) (f₀ : Buf (Elt F) ℓ) :
    (iprop(∃ f, ℓ ↦{fullShare} f) : sProp 𝕄) = bigSep Finset.univ fun b => iprop(∃ f, ℓ ↦[I b]{fullShare} f) :=
  BI.Entails.antisymm (any_split I hd hc) (Ring.pointsTo_blocks_join_exists I hd hc f₀)

variable (m : (ℓ : Loc nD τ sig) → Buf (Elt F) ℓ)

omit [FloatOps F] in
/-- What a device holds per channel, direction by direction. -/
theorem bigSep_Ch (Φ : Ch → sProp 𝕄) : bigSep Finset.univ Φ
    = iprop(((bigSep Finset.univ fun sk : Fin 3 × Fin 4 => Φ (.inl (0, sk.1, sk.2))) ∗ (bigSep Finset.univ fun sk : Fin 3 × Fin 4 => Φ (.inl (1, sk.1, sk.2))))
      ∗ bigSep Finset.univ fun r : Fin 3 => Φ (.inr r)) := by
  rw [BI.bigSep_univ_sum, BI.bigSep_univ_prod, bigSep_univ_eq_bigSepL [(0 : Fin 2), (1 : Fin 2)] (by decide) (by decide)]
  rfl

include m in
theorem send_right (c : Dev nD) : (bigSep Finset.univ fun sk : Fin 3 × Fin 4 => srcAny (F := F) (.inl (0, sk.1, sk.2)) c) = bufAny c cc0_scratch1 := by
  unfold bufAny
  rw [any_blocks (ℓ := (c : Thread nD τ).loc cc0_scratch1) ringSlot ringSlot_disj ringSlot_cover (m _)]
  refine bigSep_congr fun sk _ => ?_
  unfold srcAny
  rw [sSlot_set]
  rw [show ((sBuf (.inl (0, sk.1, sk.2))).access (slotR (.inl (0, sk.1, sk.2)))).set = ringSlot sk from View.set_slice_whole cc0_scratch1 _]

include m in
theorem send_left (c : Dev nD) : (bigSep Finset.univ fun sk : Fin 3 × Fin 4 => srcAny (F := F) (.inl (1, sk.1, sk.2)) c) = bufAny c cc0_scratch3 := by
  unfold bufAny
  rw [any_blocks (ℓ := (c : Thread nD τ).loc cc0_scratch3) ringSlot ringSlot_disj ringSlot_cover (m _)]
  refine bigSep_congr fun sk _ => ?_
  unfold srcAny
  rw [sSlot_set]
  rw [show ((sBuf (.inl (1, sk.1, sk.2))).access (slotR (.inl (1, sk.1, sk.2)))).set = ringSlot sk from View.set_slice_whole cc0_scratch3 _]

include m in
theorem send_plane (c : Dev nD) : (bigSep Finset.univ fun r : Fin 3 => srcAny (F := F) (.inr r) c) = bufAny c cc0_scratch5 := by
  unfold bufAny
  rw [any_blocks (ℓ := (c : Thread nD τ).loc cc0_scratch5) planeSlot planeSlot_disj planeSlot_cover (m _)]
  refine bigSep_congr fun r _ => ?_
  unfold srcAny
  rw [sSlot_set]
  rw [show ((sBuf (.inr r)).access (slotR (.inr r))).set = planeSlot r from View.set_slice_whole cc0_scratch5 _]

include m in
/-- The send buffers are the send slots. -/
theorem send_slots (c : Dev nD) : (bigSep Finset.univ fun n => srcAny (F := F) n c)
    = iprop((bufAny c cc0_scratch1 ∗ bufAny c cc0_scratch3) ∗ bufAny c cc0_scratch5) := by
  rw [bigSep_Ch, send_right m, send_left m, send_plane m]

include m in
theorem recv_right (c : Dev nD) : (bigSep Finset.univ fun sk : Fin 3 × Fin 4 => dstAny (F := F) (.inl (0, sk.1, sk.2)) c) = bufAny c cc0_scratch2 := by
  unfold bufAny
  rw [any_blocks (ℓ := (c : Thread nD τ).loc cc0_scratch2) ringSlot ringSlot_disj ringSlot_cover (m _)]
  refine bigSep_congr fun sk _ => ?_
  unfold dstAny
  rw [rSlot_set]
  rw [show ((rBuf (.inl (0, sk.1, sk.2))).access (slotR (.inl (0, sk.1, sk.2)))).set = ringSlot sk from View.set_slice_whole cc0_scratch2 _]

include m in
theorem recv_left (c : Dev nD) : (bigSep Finset.univ fun sk : Fin 3 × Fin 4 => dstAny (F := F) (.inl (1, sk.1, sk.2)) c) = bufAny c cc0_scratch4 := by
  unfold bufAny
  rw [any_blocks (ℓ := (c : Thread nD τ).loc cc0_scratch4) ringSlot ringSlot_disj ringSlot_cover (m _)]
  refine bigSep_congr fun sk _ => ?_
  unfold dstAny
  rw [rSlot_set]
  rw [show ((rBuf (.inl (1, sk.1, sk.2))).access (slotR (.inl (1, sk.1, sk.2)))).set = ringSlot sk from View.set_slice_whole cc0_scratch4 _]

include m in
theorem recv_plane (c : Dev nD) : (bigSep Finset.univ fun r : Fin 3 => dstAny (F := F) (.inr r) c) = bufAny c cc0_scratch6 := by
  unfold bufAny
  rw [any_blocks (ℓ := (c : Thread nD τ).loc cc0_scratch6) planeSlot planeSlot_disj planeSlot_cover (m _)]
  refine bigSep_congr fun r _ => ?_
  unfold dstAny
  rw [rSlot_set]
  rw [show ((rBuf (.inr r)).access (slotR (.inr r))).set = planeSlot r from View.set_slice_whole cc0_scratch6 _]

include m in
/-- The landing buffers are the landing slots. -/
theorem recv_slots (c : Dev nD) : (bigSep Finset.univ fun n => dstAny (F := F) n c)
    = iprop((bufAny c cc0_scratch2 ∗ bufAny c cc0_scratch4) ∗ bufAny c cc0_scratch6) := by
  rw [bigSep_Ch, recv_right m, recv_left m, recv_plane m]

end Cert.Exchange

end
-- ==== Proof.Start.lean ====
/-
# The kernel between its launch and its exit

What a device starts from and ends with around the body, and the body's obligation in the pipeline's terms.
-/
module

public import proofs.«01_k».proof.Proof.Body
public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the five directions and the semaphores -/

omit [FloatOps F] in
theorem bigSep_CX (Φ : CX → sProp 𝕄) : bigSep Finset.univ Φ = iprop(Φ none ∗ bigSep Finset.univ fun x => Φ (some x)) := by
  rw [show (Finset.univ : Finset CX) = insert none (Finset.univ.map Function.Embedding.some) from rfl, BI.bigSep_insert (by simp), bigSep_map]
  rfl

omit [FloatOps F] in
theorem bigSep_BCh (Φ : Bool × Ch → sProp 𝕄) :
    bigSep Finset.univ Φ = iprop((bigSep Finset.univ fun n => Φ (false, n)) ∗ bigSep Finset.univ fun n => Φ (true, n)) := by
  rw [BI.bigSep_univ_prod, bigSep_univ_eq_bigSepL [false, true] (by decide) (by decide)]
  rfl

/-- All of a device's landing slots, sorted by the peer that sends into them. -/
theorem dst_sorted (c : Dev nD) : (bigSep Finset.univ fun n => dstAny (F := F) n c) = bigSep Finset.univ fun j => barPay (F := F) (nbr j c) j := by
  have h := BI.bigSep_fiberwise (M := MT nD τ sig Unit (Elt F) ℕ UU ℕ) Finset.univ cls (fun n => dstAny (F := F) n c)
  rw [show Finset.univ.image cls = Finset.univ from by decide +kernel] at h
  rw [h]
  refine bigSep_congr fun j _ => ?_
  unfold barPay
  refine bigSep_congr fun n hn => ?_
  rw [show tgt n (nbr j c) = c by rw [← (Finset.mem_filter.mp hn).2]; exact tgt_src n c]

/-! ## Before and after -/

/-- The places at which device `c` stands at its semaphores, and the tokens of the contributions that it pays. -/
def linear (c : Dev nD) : sProp 𝕄 :=
  iprop((atPos ER (barCell c) 0 ∅ 0 ∗ (bigSep Finset.univ fun n => atPos ER (sendCell n c) 0 ∅ 0) ∗ (bigSep Finset.univ fun n => atPos ER (recvCell n c) 0 ∅ 0))
    ∗ (bigSep Finset.univ fun j => dutyTok ER (barCell (nbr j c)) 0 j)
    ∗ (bigSep Finset.univ fun n => dutyTok ER (sendCell n c) 0 0) ∗ (bigSep Finset.univ fun n => dutyTok ER (recvCell n (tgt n c)) 0 0))

/-- What device `c` starts from besides its buffers: the invariants, the above, the units its peers owe it, the levels. -/
def start (c : Dev nD) : sProp 𝕄 :=
  iprop((∃ K, records m ρ K ∗ linear c) ∗ cred (tallyAt (barCell c) () 5)
    ∗ (bigSep Finset.univ fun n => cred (tallyAt (recvCell n c) () (Ncr n))) ∗ levAts L lv)

/-- The buffers of the exchange, at any contents. -/
def bufs (c : Dev nD) : sProp 𝕄 :=
  iprop((∃ f, pPts (F := F) c f) ∗ (bigSep Finset.univ fun n => srcAny (F := F) n c) ∗ bigSep Finset.univ fun n => dstAny (F := F) n c)

def Φ₀ (c : Dev nD) : sProp 𝕄 := iprop(start m ρ c ∗ bufs (F := F) c)

/-- What device `c` ends with: the buffers, and every semaphore closed at zero. -/
def Φ₁ (c : Dev nD) : sProp 𝕄 :=
  iprop(bufs (F := F) c ∗ (bigSep Finset.univ fun n => semVal (sendCell n c) 0) ∗ (bigSep Finset.univ fun n => semVal (recvCell n c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

omit [FloatOps F] in
theorem owns_whole (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

/-- A staging buffer of device `c` holding `x`. -/
abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outV m ρ c))

/-- What the body starts from is the first state of the run. -/
theorem pre_state (K : Dev nD × CX → ℕ) (c : Dev nD) (f : (cc0_scratch0 : Ref sig .tc).ty.Contents (Elt F))
    (g : (cc0_stg2_0 : Ref sig .tc).ty.Contents (Elt F)) (W : Waits sig Unit) :
    iprop(records m ρ K ∗ levAts L lv ∗ xPts m ρ c ∗ wPts m ρ c ∗ oPts c g ∗ pPts c f ∗ linear c
      ∗ cred (tallyAt (barCell c) () 5) ∗ (bigSep Finset.univ fun n => cred (tallyAt (recvCell n c) () (Ncr n)))
      ∗ (bigSep Finset.univ fun n => srcAny (F := F) n c) ∗ (bigSep Finset.univ fun n => dstAny (F := F) n c) ∗ owes (c : Thread nD τ) (O₀ c) W)
    ⊢ SG m ρ K c 0 (oPts c g) f := by
  unfold SG linear O₀
  rw [from_zero (toRecv c), show (Finset.univ.filter fun j : Fin 5 => 0 ≤ j.val) = Finset.univ from Finset.filter_true_of_mem fun _ _ => Nat.zero_le _,
    dst_sorted]
  have ek : bigSep Finset.univ (keep c) = iprop((bigSep Finset.univ fun n => srcAny (F := F) n c) ∗ (bigSep Finset.univ fun n => dutyTok ER (sendCell n c) 0 0)
      ∗ (bigSep Finset.univ fun n => dutyTok ER (recvCell n (tgt n c)) 0 0) ∗ bigSep Finset.univ fun n => atPos ER (sendCell n c) 0 ∅ 0) := by
    unfold keep; rw [bigSep_sep', bigSep_sep', bigSep_sep']
  have er : bigSep Finset.univ (toRecv (F := F) c) = iprop((bigSep Finset.univ fun n => cred (tallyAt (recvCell n c) () (Ncr n)))
      ∗ bigSep Finset.univ fun n => atPos ER (recvCell n c) 0 ∅ 0) := by
    unfold toRecv; rw [bigSep_sep']
  have es : bigSep Finset.univ (toSig (F := F) c) = iprop((bigSep Finset.univ fun j => barPay (F := F) (nbr j c) j)
      ∗ bigSep Finset.univ fun j => dutyTok ER (barCell (nbr j c)) 0 j) := by
    unfold toSig; rw [bigSep_sep']
  rw [ek, er, es]
  iintro ⟨#HR, #HL, Hx, Hw, Ho, Hp, ⟨⟨HaB, HaS, HaV⟩, HtB, HtS, HtV⟩, HcB, HcV, Hsrc, Hdst, HO⟩
  iframe
  isplitr; · iexact HR
  isplitr; · iexact HL
  iexists W
  iexact HO

/-- A landing slot holding what was sent is a landing slot. -/
theorem dst_any (n : Ch) (c : Dev nD) : dstVal m ρ n c ⊢ dstAny (F := F) n c := by
  unfold dstVal dstAny
  iintro ⟨%f, -, H⟩
  iexists f
  iexact H

/-- The last state of the run gives what the body has to end with. -/
theorem post_state (K : Dev nD × CX → ℕ) (c : Dev nD) : RS m ρ K c 27 27 27 (oPts c (outV m ρ c)) ⊢ bodyPost m ρ c := by
  unfold RS bodyPost Φ₁ bufs
  rw [upto_all (sdone c), upto_all (recvd m ρ c), oweS_end]
  have es : bigSep Finset.univ (sdone (F := F) c) = iprop((bigSep Finset.univ fun n => srcAny (F := F) n c) ∗ bigSep Finset.univ fun n => semVal (sendCell n c) 0) := by
    unfold sdone; rw [bigSep_sep']
  have er : bigSep Finset.univ (recvd m ρ c) = iprop((bigSep Finset.univ fun n => dstVal m ρ n c) ∗ bigSep Finset.univ fun n => semVal (recvCell n c) 0) := by
    unfold recvd; rw [bigSep_sep']
  rw [es, er]
  have ed : (bigSep Finset.univ fun n => dstVal m ρ n c) ⊢ bigSep Finset.univ fun n => dstAny (F := F) n c := bigSep_mono fun n _ => dst_any m ρ n c
  unfold Dat.owesAt Pipeline.owesWithin
  rw [show (dats m ρ 0 c).owed t₀.succ = 0 from rfl]
  iintro ⟨-, -, Hx, Hw, Ho, HzB, Hp, -, -, ⟨Hsrc, HzS⟩, -, ⟨Hdst, HzV⟩, %W, HO⟩
  ihave Hdst := ed $$ Hdst
  isplitl [Hp Hsrc Hdst HzS HzV HzB]
  · isplitl [Hp Hsrc Hdst]
    · isplitl [Hp]; · iexists _; iexact Hp
      isplitl [Hsrc] <;> iassumption
    isplitl [HzS]; · iexact HzS
    isplitl [HzV] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body in the pipeline's terms. -/
theorem sound_body (c : Dev nD) : bodyPre m ρ c ⊢ WP c (theBody (F := F)) fun _ => bodyPost m ρ c := by
  unfold bodyPre Φ₀ start bufs
  unfold Dat.owesAt Pipeline.owesWithin
  rw [show (dats m ρ 0 c).owed t₀.castSucc = O₀ c from rfl]
  iintro ⟨⟨⟨⟨%K, #HR, Hl⟩, HcB, HcV, #HL⟩, ⟨%f, Hp⟩, Hsrc, Hdst⟩, ⟨%W, %hW, HO⟩, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  iapply ((body_run m ρ K c f g2).trans (wp_mono _ _ _ fun _ => post_state m ρ K c))
  iapply (pre_state m ρ K c f g2 W)
  isplitr; · iexact HR
  isplitr; · iexact HL
  isplitl [Hx]; · iexact Hx
  isplitl [Hw]; · iexact Hw
  isplitl [Hout]; · iexact Hout
  isplitl [Hp]; · iexact Hp
  isplitl [Hl]; · iexact Hl
  isplitl [HcB]; · iexact HcB
  isplitl [HcV]; · iexact HcV
  isplitl [Hsrc]; · iexact Hsrc
  isplitl [Hdst]; · iexact Hdst
  iexact HO

set_option maxRecDepth 40000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ WP c (theBody (F := F)) fun _ => bodyPost m ρ c
  exact sound_body m ρ c

end Cert.Exchange

end
-- ==== Proof.Launch.lean ====
/-
# The launch: from zero counters to the final state

The exchange's invariants are allocated for all the devices at once, the tokens dealt to the devices that pay with them,
and the credit of what every device is owed is counted. The run of the whole program follows (`run_main`).
-/
module

public import proofs.«01_k».proof.Proof.Start
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem :=
  ⟨by decide +kernel, osem_inj, by decide +kernel⟩

theorem share_eq (c : Dev nD) (w : Fin cfg0.W) : (dats m ρ 0 c).share w = fullShare := by unfold Dat.share; split <;> rfl

/-! ## The ghost state minted at launch -/

theorem kcell_inj : Function.Injective (kcell : Dev nD × CX → GSem nD τ sig) := by
  rintro ⟨c, k⟩ ⟨c', k'⟩ h
  have h1 : c = c' := congrArg (fun g : GSem nD τ sig => g.1.1) h
  exact Prod.ext h1 (csem_inj (congrArg Prod.snd h))

def ringCells : Finset (GSem nD τ sig) := Finset.univ.map ⟨kcell, kcell_inj⟩

/-- The contributions to a device's cells: five to its barrier, one to each of the others. -/
abbrev TK : Type := Fin 5 ⊕ (Bool × Ch)
abbrev tokOf : Dev nD × TK → GSem nD τ sig × ℕ × D
  | (c, .inl j) => (barCell c, 0, j)
  | (c, .inr x) => (kcell (c, some x), 0, 0)

theorem tokOf_inj : Function.Injective tokOf := by
  rintro ⟨c, j⟩ ⟨c', j'⟩ h
  have h1 : c = c' := by
    have := congrArg (fun x : GSem nD τ sig × ℕ × D => x.1.1.1) h
    cases j <;> cases j' <;> exact this
  subst h1
  have h2 := congrArg (fun x : GSem nD τ sig × ℕ × D => x.1.2) h
  have h3 := congrArg (fun x : GSem nD τ sig × ℕ × D => x.2.2) h
  cases j with
  | inl j => cases j' with
    | inl j' => exact congrArg (fun j => (c, Sum.inl j)) h3
    | inr x' => cases h2
  | inr x => cases j' with
    | inl j' => cases h2
    | inr x' => exact congrArg (fun x => (c, Sum.inr x)) (osem_inj h2)

def ringToks : Finset (GSem nD τ sig × ℕ × D) := Finset.univ.map ⟨tokOf, tokOf_inj⟩

def u₀ : UU := (initOf (Pipeline.cells cfgs cellOf_inj) (Pipeline.launchToks cfgs cellOf_inj), initOf ringCells ringToks)

/-- The tokens of the contributions to device `c`'s own cells. -/
def toks (c : Dev nD) : sProp 𝕄 :=
  iprop((bigSep Finset.univ fun j => dutyTok ER (barCell c) 0 j)
    ∗ (bigSep Finset.univ fun n => dutyTok ER (sendCell n c) 0 0) ∗ (bigSep Finset.univ fun n => dutyTok ER (recvCell n c) 0 0))

/-- What the launch deals device `c`. -/
def G (c : Dev nD) : sProp 𝕄 :=
  iprop((bigSep Finset.univ fun k : CX => roundState ER (Rd m ρ) (kcell (c, k)) 0)
    ∗ (bigSep Finset.univ fun k : CX => iprop(atPos ER (kcell (c, k)) 0 ∅ 0 ∗ reached ER (kcell (c, k)) 0)) ∗ toks c)

/-- What is made of it, for all the devices together. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CX => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks; rw [bigSep_map, BI.bigSep_univ_prod]
    exact bigSep_congr fun c _ => by unfold toks; rw [BI.bigSep_univ_sum, bigSep_BCh]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and the tokens dealt out -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CX => semVal (kcell (c, k)) 0 : sProp 𝕄) := by
  rw [unscopedSems0_eq, bigSep_CX]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CX => semVal (kcell (c, k)) 0) ∗ bigSep Finset.univ fun k : CX => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What is dealt to every device and every index may be dealt along a rearrangement of the devices per index. -/
theorem deal {I : Type} [Fintype I] (e : I → Dev nD ≃ Dev nD) (Φ : I → Dev nD → sProp 𝕄) :
    (bigSep Finset.univ fun c => bigSep Finset.univ fun i => Φ i c) = bigSep Finset.univ fun c => bigSep Finset.univ fun i => Φ i (e i c) := by
  rw [← BI.bigSep_univ_prod (fun ci : Dev nD × I => Φ ci.2 ci.1), ← BI.bigSep_univ_prod (fun ci : Dev nD × I => Φ ci.2 (e ci.2 ci.1))]
  exact bigSep_univ_equiv (⟨fun ci => (e ci.2 ci.1, ci.2), fun ci => ((e ci.2).symm ci.1, ci.2),
    fun ci => Prod.ext ((e ci.2).symm_apply_apply ci.1) rfl, fun ci => Prod.ext ((e ci.2).apply_symm_apply ci.1) rfl⟩ : Dev nD × I ≃ Dev nD × I)
    (fun ci : Dev nD × I => Φ ci.2 ci.1)

/-- The tokens of the contributions that device `c` pays. -/
def payToks (c : Dev nD) : sProp 𝕄 :=
  iprop((bigSep Finset.univ fun j => dutyTok ER (barCell (nbr j c)) 0 j)
    ∗ (bigSep Finset.univ fun n => dutyTok ER (sendCell n c) 0 0) ∗ (bigSep Finset.univ fun n => dutyTok ER (recvCell n (tgt n c)) 0 0))

theorem toks_dealt : (bigSep Finset.univ fun c : Dev nD => (toks c : sProp 𝕄)) = bigSep Finset.univ fun c : Dev nD => payToks c := by
  unfold toks payToks
  rw [bigSep_sep', bigSep_sep', bigSep_sep', bigSep_sep',
    deal nbr (fun j c => (dutyTok ER (barCell c) 0 j : sProp 𝕄)), deal (fun n => (nbr (cls n)).symm) (fun n c => (dutyTok ER (recvCell n c) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← BI.bigSep_univ_prod (fun ck : Dev nD × CX => iprop(∃ κ : ℕ, cellInv ER (Rd m ρ) κ (kcell ck))),
    bigSep_congr (s := Finset.univ) (fun (c : Dev nD) _ => bigSep_sep' Finset.univ (fun k : CX => (atPos ER (kcell (c, k)) 0 ∅ 0 : sProp 𝕄)) (fun k => reached ER (kcell (c, k)) 0)),
    bigSep_sep', ← BI.bigSep_univ_prod (fun ck : Dev nD × CX => (reached ER (kcell ck) 0 : sProp 𝕄)), toks_dealt]
  iintro ⟨HI, ⟨Hat, #HR⟩, Htok⟩
  ihave HK := (BI.bigSep_exists_pi Finset.univ (fun (ck : Dev nD × CX) (κ : ℕ) => (cellInv ER (Rd m ρ) κ (kcell ck) : sProp 𝕄))) $$ HI
  icases HK with ⟨%K, #HI⟩
  iapply (with_persistent (R := records m ρ K) (Φ := linear) fun c _ => show iprop(records m ρ K ∗ linear c) ⊢ G' m ρ c from by
    unfold G'; iintro H; iexists K; iexact H)
  isplitr
  · unfold records; rw [bigSep_sep']; isplitl; · iexact HI
    iexact HR
  · iapply ((Entails.of_eq (bigSep_sep' Finset.univ (fun c : Dev nD => bigSep Finset.univ fun k : CX => (atPos ER (kcell (c, k)) 0 ∅ 0 : sProp 𝕄)) payToks).symm).trans
      (bigSep_mono fun c _ => show _ ⊢ linear c from Entails.of_eq (by unfold linear payToks; rw [bigSep_CX, bigSep_BCh])))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two cells of the exchange are one when device and semaphore agree. -/
theorem cell_eq_iff {a b : Dev nD} {x y : CX} : Iff (kcell (a, x) = kcell (b, y)) (a = b ∧ x = y) :=
  ⟨fun h => by have := kcell_inj h; exact ⟨congrArg Prod.fst this, congrArg Prod.snd this⟩, fun ⟨h1, h2⟩ => by rw [h1, h2]⟩

/-- Device `d` owes device `c`'s barrier a unit for every direction in which `c` is its peer. -/
theorem owed_bar (d c : Dev nD) : O₀ d (barCell c) () = ∑ j : Fin 5, if d = (nbr j).symm c then 1 else 0 := by
  unfold O₀ oweS oweB
  rw [Pi.add_apply, Finsupp.add_apply, Finset.sum_apply, Finsupp.finsetSum_apply, Finset.sum_apply, Finsupp.finsetSum_apply,
    Finset.sum_eq_zero (s := Finset.univ.filter fun n : Ch => 0 ≤ ord n) (fun n _ => by
      rw [tallyAt_apply]; exact if_neg fun h => by have := (cell_eq_iff (x := none) (y := some (true, n))).mp h.1; cases this.2), zero_add,
    Finset.filter_true_of_mem fun _ _ => Nat.zero_le _]
  refine Finset.sum_congr rfl fun j _ => ?_
  rw [tallyAt_apply]
  refine if_congr ?_ rfl rfl
  constructor
  · rintro ⟨h, -⟩
    have := ((cell_eq_iff (x := none) (y := none)).mp h).1
    rw [this]; exact ((nbr j).symm_apply_apply d).symm
  · intro h
    exact ⟨by rw [h, (nbr j).apply_symm_apply], rfl⟩

/-- On channel `n` device `d` owes `c` its landing if `c` receives from `d`. -/
theorem owed_recv (n : Ch) (d c : Dev nD) : O₀ d (recvCell n c) () = if d = src n c then Ncr n else 0 := by
  unfold O₀ oweS oweB
  rw [Pi.add_apply, Finsupp.add_apply, Finset.sum_apply, Finsupp.finsetSum_apply, Finset.sum_apply, Finsupp.finsetSum_apply,
    Finset.sum_eq_zero (s := Finset.univ.filter fun j : Fin 5 => 0 ≤ j.val) (fun j _ => by
      rw [tallyAt_apply]; exact if_neg fun h => by have := (cell_eq_iff (x := some (true, n)) (y := none)).mp h.1; cases this.2), add_zero,
    Finset.filter_true_of_mem fun _ _ => Nat.zero_le _, Finset.sum_eq_single n]
  · rw [tallyAt_apply]
    refine if_congr ?_ rfl rfl
    constructor
    · rintro ⟨h, -⟩
      have := ((cell_eq_iff (x := some (true, n)) (y := some (true, n))).mp h).1
      rw [this]; exact (src_tgt n d).symm
    · intro h
      exact ⟨by rw [h, tgt_src], rfl⟩
  · intro n' _ hne
    rw [tallyAt_apply]
    refine if_neg fun h => hne ?_
    have := ((cell_eq_iff (x := some (true, n)) (y := some (true, n'))).mp h.1).2
    exact (congrArg Prod.snd (Option.some.inj this)).symm
  · intro h; exact absurd (Finset.mem_univ n) h

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ ((nbr j).symm c) fun _ => 1).trans (if_pos (Finset.mem_univ _))]
  rfl

theorem launch_recv (n : Ch) (c : Dev nD) :
    tallyOn (recvCell n c) (launchCredit (Pipeline.owing O₀) 0 (recvCell n c)) = (tallyAt (recvCell n c) () (Ncr n) : CellTallies nD τ sig Unit) := by
  unfold tallyAt; refine congrArg _ (Finsupp.ext fun u => ?_); cases u
  rw [Pipeline.launchCredit_owing, Finsupp.single_eq_same, Finset.sum_congr rfl fun d _ => owed_recv n d c,
    Finset.sum_ite_eq' Finset.univ (src n c) fun _ => Ncr n, if_pos (Finset.mem_univ _)]

theorem creds (c : Dev nD) :
    (Pipeline.launchCred O₀ c : sProp 𝕄) ⊢ iprop(cred (tallyAt (barCell c) () 5) ∗ bigSep Finset.univ fun n => cred (tallyAt (recvCell n c) () (Ncr n))) := by
  unfold Pipeline.launchCred
  refine (BI.bigSep_subset (Finset.subset_univ (Finset.univ.map ⟨csem, csem_inj⟩))).trans ?_
  rw [bigSep_map, bigSep_CX, bigSep_BCh]
  show iprop(cred (tallyOn (barCell c) (launchCredit (Pipeline.owing O₀) 0 (barCell c)))
    ∗ _ ∗ bigSep Finset.univ fun n => cred (tallyOn (recvCell n c) (launchCredit (Pipeline.owing O₀) 0 (recvCell n c)))) ⊢ _
  rw [launch_bar, bigSep_congr fun n _ => congrArg cred (launch_recv n c)]
  iintro ⟨H1, -, H2⟩
  isplitl [H1] <;> iassumption

/-! ## Into and out of the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  rw [send_slots m, recv_slots m]
  iintro ⟨Hs, -, H0, H1, H2, H3, H4, H5, H6⟩
  isplitl [Hs]; · iexact Hs
  isplitl [H0]; · iexact H0
  isplitl [H1 H3 H5]
  · isplitl [H1 H3]
    · isplitl [H1] <;> iassumption
    · iexact H5
  isplitl [H2 H4]
  · isplitl [H2] <;> iassumption
  iexact H6

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ bufs Pipeline.ownSems0
  rw [send_slots m, recv_slots m, bigSep_BCh]
  iintro ⟨⟨H0, ⟨⟨H1, H3⟩, H5⟩, ⟨⟨H2, H4⟩, H6⟩⟩, HzS, HzV, HzB⟩
  isplitl [HzB]; · iexact HzB
  isplitl [HzS HzV]
  · isplitl [HzS] <;> iassumption
  isplitl [H0]; · iexact H0
  isplitl [H1]; · iexact H1
  isplitl [H2]; · iexact H2
  isplitl [H3]; · iexact H3
  isplitl [H4]; · iexact H4
  isplitl [H5] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun x => by
      have h : ∀ (w : Fin cfg0.W) (s : Fin (cfg0.win w).nbuf) (x : CX), csem x ≠ .dma ((cfg0.win w).sem s) := by decide +kernel
      exact h w s x) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On sixteen devices, for any float values, from any memory with zero counters: every fair execution of the program
    ends, with every counter at zero, the arguments as they were and every device's result as computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Frames.lean ====
/-
# The frames

Every program ends, with its arguments as they were and every semaphore counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Exchange

open Idealize.ShloMosaic Idealize.ShloMosaic.TcCoe Idealize.SL.Sem

/-- Over any floats, the kernel leaves its arguments as they were and every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- The two prints of the kernel have the same bodies. -/
theorem bodies_same {F : FTy → Type} [FloatOps F] : Cert.Kernel.defs₀ (F := F) = Cert.KernelIdeal.defs₀ := by
  refine congrArg Defs.onTc (funext fun l => funext fun a => ?_)
  match l, a with
  | 0, (t, s) => rfl

/-- The two prints of the kernel have the same functions. -/
theorem defs_same {F : FTy → Type} [FloatOps F] : Cert.Kernel.defs (F := F) = Cert.KernelIdeal.defs :=
  congrArg (Pipeline.defs Cert.KernelIdeal.pcfgs) bodies_same

/-- The kernel over bits. -/
theorem frame_kernel : Cert.quiescent_Kernel := fun m ρ _ => by
  rw [defs_same]
  exact frame_any (F := Bits) m ρ

/-- The kernel over the extended reals. -/
theorem frame_kernelIdeal : Cert.quiescent_KernelIdeal := fun m ρ _ => frame_any (F := Ideal) m ρ

/-- The reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Exchange

end
-- ==== Proof.Partial.lean ====
/-
# The partial products

Over the extended reals, every entry of what a device computes from its blocks, and of the chunks and blocks that are
read back from it, is a sum of products of entries of the whole arrays.
-/
module

public import proofs.«01_k».proof.Proof.Common
public import Idealize.ShloMosaic.Lib.Pointwise
public import Idealize.ShloMosaic.Lib.Pipeline.Value

@[expose] public section

noncomputable section

namespace Cert.Exchange

open Cert.KernelIdeal Cert.KernelIdeal.Gen
open Idealize.ShloMosaic Idealize.ShloMosaic.TcCoe

/-- The entry of a square array in row `r` and column `k`, zero outside. -/
def ent (A : (⟨2, ![1024, 1024]⟩ : Shape).Idx → EReal) (r k : ℕ) : EReal :=
  if h : r < 1024 ∧ k < 1024 then A (ix2 ⟨r, h.1⟩ ⟨k, h.2⟩) else 0

theorem ent_idx (A : (⟨2, ![1024, 1024]⟩ : Shape).Idx → EReal) (i : (⟨2, ![1024, 1024]⟩ : Shape).Idx) :
    A i = ent A (i 0).val (i 1).val := by
  unfold ent
  rw [dif_pos ⟨(i 0).isLt, (i 1).isLt⟩]
  exact congrArg A (eq_ix2 i)

/-- The row of `x` that the row `r` of a partial product comes from. -/
def rowOf (r : ℕ) : ℕ := 256 * (r / 64 % 4) + 64 * (r / 64 / 4) + r % 64

/-- Row `r`, column `q` of device `d`'s partial product: the products over the columns of `x` that `d` holds. -/
def part (A B : (⟨2, ![1024, 1024]⟩ : Shape).Idx → EReal) (d r q : ℕ) : EReal :=
  ∑ k : Fin 64, ent A (rowOf r) (64 * d + k.val) * ent B (64 * d + k.val) q

variable (m : (ℓ : Loc nD τ sig) → Buf (Elt Ideal) ℓ) (ρ : Dev nD → PrngReg)

/-- Device `c`'s staged blocks are its columns of `A` and its rows of `B`. -/
structure Holds (A B : (⟨2, ![1024, 1024]⟩ : Shape).Idx → EReal) : Prop where
  x : ∀ (c : Dev nD) (i : S1024x64.Idx), xstg m ρ c i = ent A (i 0).val (64 * c.val + (i 1).val)
  w : ∀ (c : Dev nD) (i : S64x1024.Idx), wstg m ρ c i = ent B (64 * c.val + (i 0).val) (i 1).val

variable {A B : (⟨2, ![1024, 1024]⟩ : Shape).Idx → EReal}

theorem tile_inb (b : Fin 16) : ∀ a, (![256 * (b.val % 4) + 64 * (b.val / 4), 0] : Fin 2 → ℕ) a + S64x64.size a ≤ S1024x64.size a := by
  revert b; decide

/-- The sixteen row tiles of `x`, in the order in which they are put together. -/
def tile (c : Dev nD) (b : Fin 16) : FVec Ideal S64x64 .bf16 :=
  shapeCast S64x64 (xRd m ρ c (256 * (b.val % 4) + 64 * (b.val / 4)) (tile_inb b)) shapeCasts_S64x64_S64x64

theorem tile_apply (H : Holds m ρ A B) (c : Dev nD) (b : Fin 16) (i : S64x64.Idx) :
    tile m ρ c b i = ent A (256 * (b.val % 4) + 64 * (b.val / 4) + (i 0).val) (64 * c.val + (i 1).val) := by
  unfold tile
  rw [shapeCast_self]
  refine (H.x c ((Rect.unit (s := S1024x64) ![256 * (b.val % 4) + 64 * (b.val / 4), 0] S64x64.size (tile_inb b)).emb i)).trans ?_
  rw [Rect.emb_apply, Rect.emb_apply]
  show ent A (256 * (b.val % 4) + 64 * (b.val / 4) + 1 * (i 0).val) (64 * c.val + (0 + 1 * (i 1).val)) = _
  rw [one_mul, one_mul, zero_add]

/-- The rows of `x` as they enter the product. -/
def lhs (c : Dev nD) : FVec Ideal S1024x64 .bf16 :=
  concatenate S1024x64 0 (List.ofFn fun b : Fin 16 => (⟨S64x64, tile m ρ c b⟩ : (s : Shape) × (s.Idx → EReal)))
    concatenates_S64x64_S64x64_S64x64_S64x64_S64x64_S64x64_S64x64_S64x64_S64x64_S64x64_S64x64_S64x64_S64x64_S64x64_S64x64_S64x64_S1024x64_d0

theorem lhs_apply (H : Holds m ρ A B) (c : Dev nD) (i : S1024x64.Idx) :
    lhs m ρ c i = ent A (rowOf (i 0).val) (64 * c.val + (i 1).val) := by
  have h0 : (i 0).val < 1024 := (i 0).isLt
  unfold lhs
  refine (concatenate_ofFn_apply (t := S1024x64) (s₁ := S64x64) (0 : Fin 2) (tile m ρ c) _ rfl 64 rfl i ⟨(i 0).val / 64, by omega⟩ rfl
    (ix2 ⟨(i 0).val % 64, by omega⟩ (i 1)) rfl (fun b hb => by
      match b with
      | ⟨0, _⟩ => exact absurd rfl hb
      | ⟨1, _⟩ => rfl)).trans ?_
  rw [tile_apply m ρ H]
  rfl

/-- The rows of `w` as they enter the product. -/
def rhs (c : Dev nD) : FVec Ideal S64x1024 .bf16 :=
  shapeCast S64x1024 (wM.view.readAt (Elt Ideal) (Rect.unit (s := S64x1024) ![0, 0] S64x1024.size inb_S64x1024_S64x1024_0_0).toLoadRect
    (wstg m ρ c)) shapeCasts_S64x1024_S64x1024

theorem rhs_apply (H : Holds m ρ A B) (c : Dev nD) (i : S64x1024.Idx) :
    rhs m ρ c i = ent B (64 * c.val + (i 0).val) (i 1).val := by
  refine (congrFun (shapeCast_self _ _) i).trans ?_
  refine (H.w c ((Rect.unit (s := S64x1024) ![0, 0] S64x1024.size inb_S64x1024_S64x1024_0_0).emb i)).trans ?_
  rw [Rect.emb_apply, Rect.emb_apply]
  show ent B (64 * c.val + (0 + 1 * (i 0).val)) (0 + 1 * (i 1).val) = _
  rw [one_mul, one_mul, zero_add, zero_add]

/-- Every entry of a partial product. -/
theorem P_apply (H : Holds m ρ A B) (c : Dev nD) (i : S1024x1024.Idx) : P m ρ c i = part A B c.val (i 0).val (i 1).val := by
  have e : P m ρ c = shapeCast S1024x1024 (matmul (F := Ideal) dot_S1024x64_S64x1024_S1024x1024_1_0_0_1_n_n none (lhs m ρ c)
      (rhs m ρ c) (constant S1024x1024 .f32 0x00000000#32)) shapeCasts_S1024x1024_S1024x1024 := rfl
  rw [e, shapeCast_self]
  pointwise [part]
  rw [Finset.sum_congr rfl fun k _ => by rw [lhs_apply m ρ H, rhs_apply m ρ H]]
  rfl

/-- Every entry of a chunk that a ring copy carries a sum of. -/
theorem pChunk_apply (H : Holds m ρ A B) (σ : Fin 2) (s : ℕ) (k : Fin 4) (c : Dev nD) (i : S256x128.Idx) :
    pChunk m ρ σ s k c i = part A B c.val (256 * grp σ s c + (i 0).val) (512 * σ.val + 128 * k.val + (i 1).val) := by
  refine (P_apply m ρ H c ((Rect.unit (s := S1024x1024) (pOff σ s k c) S256x128.size (pOff_inb σ s k c)).emb i)).trans ?_
  rw [Rect.emb_apply, Rect.emb_apply]
  show part A B c.val (256 * grp σ s c + 1 * (i 0).val) (512 * σ.val + 128 * k.val + 1 * (i 1).val) = _
  rw [one_mul, one_mul]

/-- Every entry of a block of the device's own row group. -/
theorem pBlk_apply (H : Holds m ρ A B) (b : Fin 4) (σ : Fin 2) (k : Fin 4) (c : Dev nD) (i : S64x128.Idx) :
    pBlk m ρ b σ k c i
      = part A B c.val (256 * (c.val % 4) + 64 * b.val + (i 0).val) (512 * σ.val + 128 * k.val + (i 1).val) := by
  refine (P_apply m ρ H c ((Rect.unit (s := S1024x1024) ![256 * (c.val % 4) + 64 * b.val, 512 * σ.val + 128 * k.val] S64x128.size
    (pBlk_inb b σ k c)).emb i)).trans ?_
  rw [Rect.emb_apply, Rect.emb_apply]
  show part A B c.val (256 * (c.val % 4) + 64 * b.val + 1 * (i 0).val) (512 * σ.val + 128 * k.val + 1 * (i 1).val) = _
  rw [one_mul, one_mul]

end Cert.Exchange

end
-- ==== Proof.Sums.lean ====
/-
# The sums over the ring and over the planes

Over the extended reals, every entry of a device's result is the larger of zero and the sum of the sixteen partial products
in the rows that the device keeps.
-/
module

public import proofs.«01_k».proof.Proof.Partial

@[expose] public section

noncomputable section

namespace Cert.Exchange

open Cert.KernelIdeal Cert.KernelIdeal.Gen
open Idealize.ShloMosaic Idealize.ShloMosaic.TcCoe

/-! ## What the steps compute, at an index -/

theorem pay7_apply (v : Vec Ideal S256x128 .f32) (a : Fin 256) (b : Fin 128) : k0_pay7 (F := Ideal) v (ix4 0 0 a b) = v (ix2 a b) := by
  pointwise [k0_pay7]

theorem pay17_apply (v : Vec Ideal S256x128 .f32) (u : Vec Ideal S1x1x256x128 .bf16) (a : Fin 256) (b : Fin 128) :
    k0_pay17 (F := Ideal) v u (ix4 0 0 a b) = (v (ix2 a b) + u (ix4 0 0 a b) : EReal) := by
  pointwise [k0_pay17]

theorem pay45_apply (v : Vec Ideal S64x128 .f32) (u : Vec Ideal S1x1x64x128 .bf16) (i : S64x128.Idx) :
    k0_pay45 (F := Ideal) v u i = (v i + u (ix4 0 0 (i 0) (i 1)) : EReal) := by
  pointwise [k0_pay45]

theorem pay70_apply (v : FVec Ideal S64x1024 .f32) (u₀ u₁ u₂ : Vec Ideal S1x64x1024 .bf16) (i : S64x1024.Idx) :
    k0_pay70 (F := Ideal) v u₀ u₁ u₂ i
      = max (v i + u₀ (ix3 0 (i 0) (i 1)) + u₁ (ix3 0 (i 0) (i 1)) + u₂ (ix3 0 (i 0) (i 1)) : EReal) 0 := by
  pointwise [k0_pay70]

/-! ## Round the ring -/

/-- The neighbour that device `c` receives from in direction `σ`. -/
abbrev prv (σ : Fin 2) (c : Dev nD) : Dev nD := src (.inl (σ, 0, 0)) c

/-- A row group stays the same from hop to hop. -/
theorem grp_prv (σ s : Fin 2) (c : Dev nD) : grp σ s.val (prv σ c) = grp σ (s.val + 1) c := by
  revert σ s c; decide +kernel

/-- After the last hop a device receives its own row group. -/
theorem grp_own (σ : Fin 2) (c : Dev nD) : grp σ 2 (prv σ c) = c.val % 4 := by revert σ c; decide +kernel

/-- The four devices of plane `z`. -/
def plane (z : ℕ) : Finset (Dev nD) := Finset.univ.filter fun d => d.val / 4 = z

/-- They are a device and those that are met on the way back round its ring. -/
theorem plane_eq (σ : Fin 2) (c : Dev nD) :
    plane (c.val / 4) = {c, prv σ c, prv σ (prv σ c), prv σ (prv σ (prv σ c))} := by
  revert σ c; decide +kernel

theorem ring_distinct (σ : Fin 2) (c : Dev nD) :
    c ∉ ({prv σ c, prv σ (prv σ c), prv σ (prv σ (prv σ c))} : Finset (Dev nD))
      ∧ prv σ c ∉ ({prv σ (prv σ c), prv σ (prv σ (prv σ c))} : Finset (Dev nD))
      ∧ prv σ (prv σ c) ∉ ({prv σ (prv σ (prv σ c))} : Finset (Dev nD)) := by
  revert σ c; decide +kernel

theorem sum_plane (f : Dev nD → EReal) (σ : Fin 2) (c : Dev nD) :
    ∑ d ∈ plane (c.val / 4), f d = f c + (f (prv σ c) + (f (prv σ (prv σ c)) + f (prv σ (prv σ (prv σ c))))) := by
  obtain ⟨h1, h2, h3⟩ := ring_distinct σ c
  rw [plane_eq σ c, Finset.sum_insert h1, Finset.sum_insert h2, Finset.sum_insert h3, Finset.sum_singleton]

variable (m : (ℓ : Loc nD τ sig) → Buf (Elt Ideal) ℓ) (ρ : Dev nD → PrngReg)
variable {A B : (⟨2, ![1024, 1024]⟩ : Shape).Idx → EReal}

/-- What is sent on the last hop: the sum of three chunks. -/
theorem ring_apply (H : Holds m ρ A B) (σ : Fin 2) (k : Fin 4) (c : Dev nD) (a : Fin 256) (b : Fin 128) :
    ringV m ρ σ k 2 c (ix4 0 0 a b)
      = (part A B c.val (256 * grp σ 2 c + a.val) (512 * σ.val + 128 * k.val + b.val)
        + (part A B (prv σ c).val (256 * grp σ 2 c + a.val) (512 * σ.val + 128 * k.val + b.val)
          + part A B (prv σ (prv σ c)).val (256 * grp σ 2 c + a.val) (512 * σ.val + 128 * k.val + b.val)) : EReal) := by
  have e0 : ringV m ρ σ k 0 (prv σ (prv σ c)) (ix4 0 0 a b)
      = part A B (prv σ (prv σ c)).val (256 * grp σ 0 (prv σ (prv σ c)) + a.val) (512 * σ.val + 128 * k.val + b.val) :=
    (pay7_apply _ a b).trans (pChunk_apply m ρ H σ 0 k _ (ix2 a b))
  have e1 : ringV m ρ σ k 1 (prv σ c) (ix4 0 0 a b)
      = (part A B (prv σ c).val (256 * grp σ 1 (prv σ c) + a.val) (512 * σ.val + 128 * k.val + b.val)
        + ringV m ρ σ k 0 (prv σ (prv σ c)) (ix4 0 0 a b) : EReal) :=
    (pay17_apply _ _ a b).trans (congrArg (fun y : EReal => y + _) (pChunk_apply m ρ H σ 1 k _ (ix2 a b)))
  have e2 : ringV m ρ σ k 2 c (ix4 0 0 a b)
      = (part A B c.val (256 * grp σ 2 c + a.val) (512 * σ.val + 128 * k.val + b.val)
        + ringV m ρ σ k 1 (prv σ c) (ix4 0 0 a b) : EReal) :=
    (pay17_apply _ _ a b).trans (congrArg (fun y : EReal => y + _) (pChunk_apply m ρ H σ 2 k _ (ix2 a b)))
  rw [e2, e1, e0, show grp σ 1 (prv σ c) = grp σ 2 c from grp_prv σ 1 c,
    show grp σ 0 (prv σ (prv σ c)) = grp σ 2 c from (grp_prv σ 0 (prv σ c)).trans (grp_prv σ 1 c)]

/-- The sum over the ring, at an index. -/
theorem red_apply (H : Holds m ρ A B) (b : Fin 4) (σ : Fin 2) (k : Fin 4) (c : Dev nD) (i : S64x128.Idx) :
    red m ρ b σ k c i = ∑ d ∈ plane (c.val / 4),
      part A B d.val (256 * (c.val % 4) + 64 * b.val + (i 0).val) (512 * σ.val + 128 * k.val + (i 1).val) := by
  have h0 : (i 0).val < 64 := (i 0).isLt
  have e : rBlk m ρ b σ k c (ix4 0 0 (i 0) (i 1))
      = ringV m ρ σ k 2 (prv σ c) (ix4 0 0 ⟨64 * b.val + (i 0).val, by omega⟩ (i 1)) := by
    unfold rBlk
    refine congrArg (ringV m ρ σ k 2 (prv σ c)) (funext fun x => Fin.ext ?_)
    rw [Rect.emb_apply]
    match x with
    | ⟨0, _⟩ => rfl
    | ⟨1, _⟩ => rfl
    | ⟨2, _⟩ => show 64 * b.val + 1 * (i 0).val = 64 * b.val + (i 0).val; omega
    | ⟨3, _⟩ => show 0 + 1 * (i 1).val = (i 1).val; omega
  refine (pay45_apply _ _ i).trans ?_
  have r := ring_apply m ρ H σ k (prv σ c) ⟨64 * b.val + (i 0).val, by omega⟩ (i 1)
  rw [e.trans r, pBlk_apply m ρ H, grp_own, ← Nat.add_assoc, sum_plane _ σ c]

/-! ## Between the planes -/

/-- The eight chunks of a row group's block side by side: the ring sum of the rows of plane `b`. -/
def rowV (b : Fin 4) (c : Dev nD) : FVec Ideal S64x1024 .f32 :=
  concatenate S64x1024 1 (List.ofFn fun n : Fin 8 =>
      (⟨S64x128, red m ρ b ⟨n.val / 4, by omega⟩ ⟨n.val % 4, by omega⟩ c⟩ : (s : Shape) × (s.Idx → EReal)))
    concatenates_S64x128_S64x128_S64x128_S64x128_S64x128_S64x128_S64x128_S64x128_S64x1024_d1

theorem rowV_apply (H : Holds m ρ A B) (b : Fin 4) (c : Dev nD) (i : S64x1024.Idx) :
    rowV m ρ b c i = ∑ d ∈ plane (c.val / 4), part A B d.val (256 * (c.val % 4) + 64 * b.val + (i 0).val) (i 1).val := by
  have h1 : (i 1).val < 1024 := (i 1).isLt
  unfold rowV
  refine (concatenate_ofFn_apply (t := S64x1024) (s₁ := S64x128) (1 : Fin 2)
    (fun n : Fin 8 => red m ρ b ⟨n.val / 4, by omega⟩ ⟨n.val % 4, by omega⟩ c) _ rfl 128 rfl i ⟨(i 1).val / 128, by omega⟩ rfl
    (ix2 (i 0) ⟨(i 1).val % 128, by omega⟩) rfl (fun a ha => by
      match a with
      | ⟨0, _⟩ => rfl
      | ⟨1, _⟩ => exact absurd rfl ha)).trans ?_
  refine (red_apply m ρ H _ _ _ _ _).trans (Finset.sum_congr rfl fun d _ => ?_)
  refine congrArg (part A B d.val _) ?_
  show 512 * ((i 1).val / 128 / 4) + 128 * ((i 1).val / 128 % 4) + (i 1).val % 128 = (i 1).val
  omega

theorem ownV_eq (c : Dev nD) : ownV m ρ c = rowV m ρ (ownPlane c) c := rfl

theorem planeV_apply (b : Fin 4) (c : Dev nD) (r : Fin 64) (q : Fin 1024) : planeV m ρ b c (ix3 0 r q) = rowV m ρ b c (ix2 r q) := by
  have e : planeV m ρ b c = shapeCast S1x64x1024 (truncf (F := Ideal) .bf16 (rowV m ρ b c) bitsLt_bf16_f32) shapeCasts_S64x1024_S1x64x1024 := rfl
  rw [e]
  pointwise

/-- What a device receives on a plane copy is the sender's ring sum of the receiver's rows. -/
theorem toPlane_src (r : Fin 3) (c : Dev nD) : toPlane r (src (.inr r) c) = ownPlane c ∧ (src (.inr r) c).val % 4 = c.val % 4
    ∧ (src (.inr r) c).val / 4 = (c.val / 4 + r.val + 1) % 4 := by
  revert r c; decide +kernel

theorem sum_planes (f : Dev nD → EReal) (c : Dev nD) :
    ∑ d ∈ plane (c.val / 4), f d + ∑ d ∈ plane ((c.val / 4 + 0 + 1) % 4), f d + ∑ d ∈ plane ((c.val / 4 + 1 + 1) % 4), f d
      + ∑ d ∈ plane ((c.val / 4 + 2 + 1) % 4), f d = ∑ d, f d := by
  have h : ∀ c : Dev nD, Disjoint (plane (c.val / 4)) (plane ((c.val / 4 + 0 + 1) % 4))
      ∧ Disjoint (plane (c.val / 4) ∪ plane ((c.val / 4 + 0 + 1) % 4)) (plane ((c.val / 4 + 1 + 1) % 4))
      ∧ Disjoint (plane (c.val / 4) ∪ plane ((c.val / 4 + 0 + 1) % 4) ∪ plane ((c.val / 4 + 1 + 1) % 4)) (plane ((c.val / 4 + 2 + 1) % 4))
      ∧ plane (c.val / 4) ∪ plane ((c.val / 4 + 0 + 1) % 4) ∪ plane ((c.val / 4 + 1 + 1) % 4) ∪ plane ((c.val / 4 + 2 + 1) % 4)
        = Finset.univ := by
    decide +kernel
  obtain ⟨h1, h2, h3, h4⟩ := h c
  rw [← Finset.sum_union h1, ← Finset.sum_union h2, ← Finset.sum_union h3, h4]

/-- Every entry of a device's result. -/
theorem outV_apply (H : Holds m ρ A B) (c : Dev nD) (i : S64x1024.Idx) :
    outV m ρ c i = max (∑ d : Dev nD, part A B d.val (256 * (c.val % 4) + 64 * (c.val / 4) + (i 0).val) (i 1).val) 0 := by
  have e : ∀ r : Fin 3, X m ρ (.inr r) (src (.inr r) c) (ix3 0 (i 0) (i 1))
      = ∑ d ∈ plane ((c.val / 4 + r.val + 1) % 4), part A B d.val (256 * (c.val % 4) + 64 * (c.val / 4) + (i 0).val) (i 1).val := fun r => by
    obtain ⟨h1, h2, h3⟩ := toPlane_src r c
    refine (planeV_apply m ρ _ _ (i 0) (i 1)).trans ?_
    rw [h1, rowV_apply m ρ H, h2, h3]
    rfl
  refine (pay70_apply _ _ _ _ i).trans ?_
  rw [e 0, e 1, e 2, ownV_eq, rowV_apply m ρ H]
  exact congrArg (fun y : EReal => max y 0) (sum_planes _ c)

end Cert.Exchange

end
-- ==== Proof.Result.lean ====
/-
# The result against the reference

What the run leaves in the result array of each device is its block of what the reference computes.
-/
module

public import proofs.«01_k».proof.Defs
public import proofs.«01_k».proof.Proof.Launch
public import proofs.«01_k».proof.Proof.Sums
public import proofs.«01_k».proof.Proof.Gen.ReferenceIdeal
public import proofs.«01_k».proof.Proof.Gen.ReferenceIdeal.Run

@[expose] public section

noncomputable section

namespace Cert.Exchange

open Idealize.ShloMosaic Idealize.ShloMosaic.TcCoe Idealize.SL.Sem

/-! ## The arrays of the kernel -/

section Arrays

open Cert.KernelIdeal Cert.KernelIdeal.Gen

variable (m : (ℓ : Loc nD τ sig) → Buf (Elt Ideal) ℓ) (ρ : Dev nD → PrngReg)

/-- The result array's one block, read back, is what the body left in its staging buffer. -/
theorem finalA_block (c : Dev nD) : (win0_2.blk (0 : Fin 1)).view.read (Elt Ideal) (finalA m ρ c (2 : Fin 3)) = outV m ρ c := by
  unfold finalA
  rw [show cfg0.N = ((0 : Fin 1) : Fin cfg0.N).val + 1 from rfl, (dats m ρ 0 c).arrAt_succ (2 : Fin 3) (0 : Fin 1),
    if_pos (flush0_2 (0 : Fin 1))]
  exact View.read_write_univ _ _

/-- That block is the whole array. -/
theorem finalA_out (c : Dev nD) (i : S64x1024.Idx) : finalA m ρ c (2 : Fin 3) i = outV m ρ c i := by
  rw [← finalA_block]
  exact congrArg (finalA m ρ c (2 : Fin 3)) (funext fun a => Fin.ext (Pipeline.Window.rect_emb_val_of_index_zero win0_2 (0 : Fin 1) a rfl i).symm)

/-- The staged `x` is the argument. -/
theorem xstg_eq (c : Dev nD) (i : S1024x64.Idx) : xstg m ρ c i = m ((c : Thread nD τ).loc main_arg0) i := by
  exact congrArg (m ((c : Thread nD τ).loc main_arg0)) (funext fun a => Fin.ext (Pipeline.Window.rect_emb_val_of_index_zero win0_0 (0 : Fin 1) a rfl i))

/-- The staged `w` is the argument. -/
theorem wstg_eq (c : Dev nD) (i : S64x1024.Idx) : wstg m ρ c i = m ((c : Thread nD τ).loc main_arg1) i := by
  exact congrArg (m ((c : Thread nD τ).loc main_arg1)) (funext fun a => Fin.ext (Pipeline.Window.rect_emb_val_of_index_zero win0_1 (0 : Fin 1) a rfl i))

/-- From arguments that are blocks of `A` and `B`. -/
theorem holds {A B : (⟨2, ![1024, 1024]⟩ : Shape).Idx → EReal}
    (h : ∀ c : Dev nD, m ((c : Thread nD τ).loc main_arg0) = Layout.block ⟨2, ![1024, 64]⟩ ⟨2, ![1024, 1024]⟩ 1 16 c A
      ∧ m ((c : Thread nD τ).loc main_arg1) = Layout.block ⟨2, ![64, 1024]⟩ ⟨2, ![1024, 1024]⟩ 0 16 c B) : Holds m ρ A B where
  x c i := by
    refine (xstg_eq m ρ c i).trans ((congrFun (h c).1 i).trans ((ent_idx A _).trans ?_))
    show ent A (i 0).val (c.val * 64 + (i 1).val) = _
    rw [Nat.mul_comm]
  w c i := by
    refine (wstg_eq m ρ c i).trans ((congrFun (h c).2 i).trans ((ent_idx B _).trans ?_))
    show ent B (c.val * 64 + (i 0).val) (i 1).val = _
    rw [Nat.mul_comm]

end Arrays

/-! ## The mathematics -/

/-- The product of the two arrays, with relu. -/
def spec (A B : (⟨2, ![1024, 1024]⟩ : Shape).Idx → EReal) (r q : ℕ) : EReal :=
  max (∑ k : Fin 1024, ent A r k.val * ent B k.val q) 0

/-- The sum over the columns is the sum over the devices of the sums over their columns. -/
theorem sum_devices (f : ℕ → EReal) : ∑ d : Fin 16, ∑ k : Fin 64, f (64 * d.val + k.val) = ∑ k : Fin 1024, f k.val := by
  rw [Fin.sum_univ_tiles 16 64 rfl]
  exact Finset.sum_congr rfl fun d _ => Finset.sum_congr rfl fun k _ => by rw [Nat.mul_comm]

/-- The row that device `c` keeps comes from row `64 c + r` of `x`. -/
theorem rowOf_own (c : Fin 16) (r : ℕ) (hr : r < 64) : rowOf (256 * (c.val % 4) + 64 * (c.val / 4) + r) = 64 * c.val + r := by
  unfold rowOf
  have := c.isLt
  omega

open Cert.KernelIdeal in
/-- A device's result is its rows of the product with relu. -/
theorem out_spec (m : (ℓ : Loc nD τ sig) → Buf (Elt Ideal) ℓ) (ρ : Dev nD → PrngReg) {A B : (⟨2, ![1024, 1024]⟩ : Shape).Idx → EReal}
    (H : Holds m ρ A B) (c : Dev nD) (i : S64x1024.Idx) : finalA m ρ c (2 : Fin 3) i = spec A B (64 * c.val + (i 0).val) (i 1).val := by
  refine (finalA_out m ρ c i).trans ((outV_apply m ρ H c i).trans ?_)
  unfold part spec
  rw [rowOf_own c _ (i 0).isLt]
  exact congrArg (fun y : EReal => max y 0)
    (sum_devices fun k => ent A (64 * c.val + (i 0).val) k * ent B k (i 1).val)

open Cert.ReferenceIdeal Cert.ReferenceIdeal.Gen in
/-- What the reference computes is the product with relu. -/
theorem reference_spec (A B : FVec Ideal S1024x1024 .bf16) (i : S1024x1024.Idx) :
    maximumf (F := Ideal) (extf .f32 (truncf .bf16 (Host.dotGeneral dot_S1024x1024_S1024x1024_S1024x1024_1_0_0_1_n_n none A B) bitsLt_bf16_f32)
        bitsLt_bf16_f32) (broadcastInDim S1024x1024 ![] bcast_S_S1024x1024 (constant S_ .f32 0x00000000#32)) i
      = spec A B (i 0).val (i 1).val := by
  pointwise [spec]
  refine congrArg (fun y : EReal => max y 0) (Finset.sum_congr rfl fun k _ => ?_)
  exact congrArg₂ (fun a b : EReal => a * b) (ent_idx A _) (ent_idx B _)

/-- The kernel over the extended reals leaves on every device its block of the reference's result. -/
theorem algebraic : Cert.algebraic_KernelIdeal_ReferenceIdeal := by
  intro m ρ m' ρ' _ hargs
  refine ⟨_, (θ_run Cert.KernelIdeal.defs _ _).mono (fun _ h c => ⟨?_, (h.1 c (0 : Fin 3)).trans (finalA_x m ρ c),
      (h.1 c (1 : Fin 3)).trans (finalA_w m ρ c)⟩) (run_main (F := Ideal) m ρ),
    (θ_run Cert.ReferenceIdeal.defs _ _).mono (fun _ h => h 0) (Cert.ReferenceIdeal.Value.run (F := Ideal) m' ρ')⟩
  refine (h.1 c (2 : Fin 3)).trans (funext fun i => ?_)
  refine (out_spec m ρ (holds m ρ hargs) c i).trans ?_
  refine Eq.trans ?_ (reference_spec _ _ _).symm
  show spec _ _ _ _ = spec _ _ (c.val * 64 + (i 0).val) (i 1).val
  rw [Nat.mul_comm]

end Cert.Exchange

end
-- ==== Proof.lean ====
/-
# The claims

Assembled from the frames and from the equation between the kernel's result and the reference's.
-/
module

public import proofs.«01_k».proof.Defs
public import proofs.«01_k».proof.Proof.Frames
public import proofs.«01_k».proof.Proof.Result

@[expose] public section

noncomputable section

namespace Cert.Proof

open Cert.Exchange

/-- Every claim about the kernel and its reference. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
